-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x26 : Shape := ⟨2, ![4096, 26]⟩
abbrev S26x4096 : Shape := ⟨2, ![26, 4096]⟩
abbrev S26x1000x4096 : Shape := ⟨3, ![26, 1000, 4096]⟩
abbrev S26x128 : Shape := ⟨2, ![26, 128]⟩
abbrev S200x128 : Shape := ⟨2, ![200, 128]⟩
abbrev S_ : Shape := ⟨0, ![]⟩
abbrev S16 : Shape := ⟨1, ![16]⟩
abbrev S1x16 : Shape := ⟨2, ![1, 16]⟩
abbrev S1x200x128 : Shape := ⟨3, ![1, 200, 128]⟩
abbrev S4096x26x1000 : Shape := ⟨3, ![4096, 26, 1000]⟩

abbrev nBuf : Table → Nat
  | .hbm => 4
  | .local .scVector .vmem => 3
  | _ => 0

abbrev bufTy : (tb : Table) → Fin (nBuf tb) → BufTy
  | .hbm, ⟨0, _⟩ => ⟨S4096x26, .i32⟩
  | .hbm, ⟨1, _⟩ => ⟨S26x4096, .i32⟩
  | .hbm, ⟨2, _⟩ => ⟨S26x1000x4096, .f32⟩
  | .hbm, ⟨3, _⟩ => ⟨S4096x26x1000, .f32⟩
  | .local .scVector .vmem, ⟨0, _⟩ => ⟨S26x128, .i32⟩
  | .local .scVector .vmem, ⟨1, _⟩ => ⟨S200x128, .f32⟩
  | .local .scVector .vmem, ⟨2, _⟩ => ⟨S200x128, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_98_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32_2 : BitVec 32 := 0#32
  let c200_i32 : BitVec 32 := 200#32
  let v6 : BitVec 32 := Scalar.addi c0_i32_2 c200_i32
  let c1_i32 : BitVec 32 := 1#32
  ⟨c0_i32_2, v6, c1_i32⟩
def k0_off2 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v224 : Index := Scalar.indexCast arg9
  let c0 : Index := 0#32
  ![v224.toNat, 0]
def k0_off3 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v226 : Index := Scalar.indexCast arg9
  let c16 : Index := 16#32
  ![v226.toNat, 16]
def k0_off4 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v228 : Index := Scalar.indexCast arg9
  let c32 : Index := 32#32
  ![v228.toNat, 32]
def k0_off5 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v230 : Index := Scalar.indexCast arg9
  let c48 : Index := 48#32
  ![v230.toNat, 48]
def k0_off6 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v232 : Index := Scalar.indexCast arg9
  let c64 : Index := 64#32
  ![v232.toNat, 64]
def k0_off7 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v234 : Index := Scalar.indexCast arg9
  let c80 : Index := 80#32
  ![v234.toNat, 80]
def k0_off8 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v236 : Index := Scalar.indexCast arg9
  let c96 : Index := 96#32
  ![v236.toNat, 96]
def k0_off9 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let v238 : Index := Scalar.indexCast arg9
  let c112 : Index := 112#32
  ![v238.toNat, 112]

def k0_chk1 (v9 : IVec S16 32) (v11 : IVec S16 32) : Prop :=
  (∀ a x, ((![v9, v11] : Fin 2 → IVec S16 32) a x).toNat < S26x128.size a)
theorem k0_idx1_inb : ∀ (v9 : IVec S16 32) (v11 : IVec S16 32) (k0_hw1 : k0_chk1 v9 v11), ∀ a x, ((![v9, v11] : Fin 2 → IVec S16 32) a x).toNat < S26x128.size a := fun v9 v11 k0_hw1 => k0_hw1

def k0_chk2 (v11 : IVec S16 32) (v21 : IVec S16 32) : Prop :=
  (∀ a x, ((![v21, v11] : Fin 2 → IVec S16 32) a x).toNat < S200x128.size a)
theorem k0_idx2_inb : ∀ (v11 : IVec S16 32) (v21 : IVec S16 32) (k0_hw2 : k0_chk2 v11 v21), ∀ a x, ((![v21, v11] : Fin 2 → IVec S16 32) a x).toNat < S200x128.size a := fun v11 v21 k0_hw2 => k0_hw2

def k0_chk3 (v9 : IVec S16 32) (v23 : IVec S16 32) : Prop :=
  (∀ a x, ((![v9, v23] : Fin 2 → IVec S16 32) a x).toNat < S26x128.size a)
theorem k0_idx3_inb : ∀ (v9 : IVec S16 32) (v23 : IVec S16 32) (k0_hw3 : k0_chk3 v9 v23), ∀ a x, ((![v9, v23] : Fin 2 → IVec S16 32) a x).toNat < S26x128.size a := fun v9 v23 k0_hw3 => k0_hw3

def k0_chk4 (v23 : IVec S16 32) (v33 : IVec S16 32) : Prop :=
  (∀ a x, ((![v33, v23] : Fin 2 → IVec S16 32) a x).toNat < S200x128.size a)
theorem k0_idx4_inb : ∀ (v23 : IVec S16 32) (v33 : IVec S16 32) (k0_hw4 : k0_chk4 v23 v33), ∀ a x, ((![v33, v23] : Fin 2 → IVec S16 32) a x).toNat < S200x128.size a := fun v23 v33 k0_hw4 => k0_hw4

def k0_chk5 (v9 : IVec S16 32) (v35 : IVec S16 32) : Prop :=
  (∀ a x, ((![v9, v35] : Fin 2 → IVec S16 32) a x).toNat < S26x128.size a)
theorem k0_idx5_inb : ∀ (v9 : IVec S16 32) (v35 : IVec S16 32) (k0_hw5 : k0_chk5 v9 v35), ∀ a x, ((![v9, v35] : Fin 2 → IVec S16 32) a x).toNat < S26x128.size a := fun v9 v35 k0_hw5 => k0_hw5

def k0_chk6 (v35 : IVec S16 32) (v45 : IVec S16 32) : Prop :=
  (∀ a x, ((![v45, v35] : Fin 2 → IVec S16 32) a x).toNat < S200x128.size a)
theorem k0_idx6_inb : ∀ (v35 : IVec S16 32) (v45 : IVec S16 32) (k0_hw6 : k0_chk6 v35 v45), ∀ a x, ((![v45, v35] : Fin 2 → IVec S16 32) a x).toNat < S200x128.size a := fun v35 v45 k0_hw6 => k0_hw6

def k0_chk7 (v9 : IVec S16 32) (v47 : IVec S16 32) : Prop :=
  (∀ a x, ((![v9, v47] : Fin 2 → IVec S16 32) a x).toNat < S26x128.size a)
theorem k0_idx7_inb : ∀ (v9 : IVec S16 32) (v47 : IVec S16 32) (k0_hw7 : k0_chk7 v9 v47), ∀ a x, ((![v9, v47] : Fin 2 → IVec S16 32) a x).toNat < S26x128.size a := fun v9 v47 k0_hw7 => k0_hw7

def k0_chk8 (v47 : IVec S16 32) (v57 : IVec S16 32) : Prop :=
  (∀ a x, ((![v57, v47] : Fin 2 → IVec S16 32) a x).toNat < S200x128.size a)
theorem k0_idx8_inb : ∀ (v47 : IVec S16 32) (v57 : IVec S16 32) (k0_hw8 : k0_chk8 v47 v57), ∀ a x, ((![v57, v47] : Fin 2 → IVec S16 32) a x).toNat < S200x128.size a := fun v47 v57 k0_hw8 => k0_hw8

def k0_chk9 (v9 : IVec S16 32) (v59 : IVec S16 32) : Prop :=
  (∀ a x, ((![v9, v59] : Fin 2 → IVec S16 32) a x).toNat < S26x128.size a)
theorem k0_idx9_inb : ∀ (v9 : IVec S16 32) (v59 : IVec S16 32) (k0_hw9 : k0_chk9 v9 v59), ∀ a x, ((![v9, v59] : Fin 2 → IVec S16 32) a x).toNat < S26x128.size a := fun v9 v59 k0_hw9 => k0_hw9

def k0_chk10 (v59 : IVec S16 32) (v69 : IVec S16 32) : Prop :=
  (∀ a x, ((![v69, v59] : Fin 2 → IVec S16 32) a x).toNat < S200x128.size a)
theorem k0_idx10_inb : ∀ (v59 : IVec S16 32) (v69 : IVec S16 32) (k0_hw10 : k0_chk10 v59 v69), ∀ a x, ((![v69, v59] : Fin 2 → IVec S16 32) a x).toNat < S200x128.size a := fun v59 v69 k0_hw10 => k0_hw10

def k0_chk11 (v9 : IVec S16 32) (v71 : IVec S16 32) : Prop :=
  (∀ a x, ((![v9, v71] : Fin 2 → IVec S16 32) a x).toNat < S26x128.size a)
theorem k0_idx11_inb : ∀ (v9 : IVec S16 32) (v71 : IVec S16 32) (k0_hw11 : k0_chk11 v9 v71), ∀ a x, ((![v9, v71] : Fin 2 → IVec S16 32) a x).toNat < S26x128.size a := fun v9 v71 k0_hw11 => k0_hw11

def k0_chk12 (v71 : IVec S16 32) (v81 : IVec S16 32) : Prop :=
  (∀ a x, ((![v81, v71] : Fin 2 → IVec S16 32) a x).toNat < S200x128.size a)
theorem k0_idx12_inb : ∀ (v71 : IVec S16 32) (v81 : IVec S16 32) (k0_hw12 : k0_chk12 v71 v81), ∀ a x, ((![v81, v71] : Fin 2 → IVec S16 32) a x).toNat < S200x128.size a := fun v71 v81 k0_hw12 => k0_hw12

def k0_chk13 (v9 : IVec S16 32) (v83 : IVec S16 32) : Prop :=
  (∀ a x, ((![v9, v83] : Fin 2 → IVec S16 32) a x).toNat < S26x128.size a)
theorem k0_idx13_inb : ∀ (v9 : IVec S16 32) (v83 : IVec S16 32) (k0_hw13 : k0_chk13 v9 v83), ∀ a x, ((![v9, v83] : Fin 2 → IVec S16 32) a x).toNat < S26x128.size a := fun v9 v83 k0_hw13 => k0_hw13

def k0_chk14 (v83 : IVec S16 32) (v93 : IVec S16 32) : Prop :=
  (∀ a x, ((![v93, v83] : Fin 2 → IVec S16 32) a x).toNat < S200x128.size a)
theorem k0_idx14_inb : ∀ (v83 : IVec S16 32) (v93 : IVec S16 32) (k0_hw14 : k0_chk14 v83 v93), ∀ a x, ((![v93, v83] : Fin 2 → IVec S16 32) a x).toNat < S200x128.size a := fun v83 v93 k0_hw14 => k0_hw14

def k0_chk15 (v9 : IVec S16 32) (v95 : IVec S16 32) : Prop :=
  (∀ a x, ((![v9, v95] : Fin 2 → IVec S16 32) a x).toNat < S26x128.size a)
theorem k0_idx15_inb : ∀ (v9 : IVec S16 32) (v95 : IVec S16 32) (k0_hw15 : k0_chk15 v9 v95), ∀ a x, ((![v9, v95] : Fin 2 → IVec S16 32) a x).toNat < S26x128.size a := fun v9 v95 k0_hw15 => k0_hw15

def k0_chk16 (v95 : IVec S16 32) (v105 : IVec S16 32) : Prop :=
  (∀ a x, ((![v105, v95] : Fin 2 → IVec S16 32) a x).toNat < S200x128.size a)
theorem k0_idx16_inb : ∀ (v95 : IVec S16 32) (v105 : IVec S16 32) (k0_hw16 : k0_chk16 v95 v105), ∀ a x, ((![v105, v95] : Fin 2 → IVec S16 32) a x).toNat < S200x128.size a := fun v95 v105 k0_hw16 => k0_hw16
def k0_off10 (i : grid0.Coords) : Fin 3 → Nat :=
  let c0_i32_38 : BitVec 32 := 0#32
  let c0_i32_39 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
@[reducible] def k0_t2_loop : Scf.Loop 32 :=
  let c0_i32_42 : BitVec 32 := 0#32
  let c200_i32_43 : BitVec 32 := 200#32
  let v110 : BitVec 32 := Scalar.addi c0_i32_42 c200_i32_43
  let c1_i32_44 : BitVec 32 := 1#32
  ⟨c0_i32_42, v110, c1_i32_44⟩
def k0_off11 (k0_t2 : Fin k0_t2_loop.trips) : Fin 2 → Nat :=
  let c0_i32_42 : BitVec 32 := 0#32
  let c1_i32_44 : BitVec 32 := 1#32
  let arg9 : BitVec 32 := Scf.iv c0_i32_42 c1_i32_44 k0_t2
  let v224 : Index := Scalar.indexCast arg9
  let c0 : Index := 0#32
  ![v224.toNat, 0]
def k0_off12 (k0_t2 : Fin k0_t2_loop.trips) : Fin 2 → Nat :=
  let c0_i32_42 : BitVec 32 := 0#32
  let c1_i32_44 : BitVec 32 := 1#32
  let arg9 : BitVec 32 := Scf.iv c0_i32_42 c1_i32_44 k0_t2
  let v226 : Index := Scalar.indexCast arg9
  let c16 : Index := 16#32
  ![v226.toNat, 16]
def k0_off13 (k0_t2 : Fin k0_t2_loop.trips) : Fin 2 → Nat :=
  let c0_i32_42 : BitVec 32 := 0#32
  let c1_i32_44 : BitVec 32 := 1#32
  let arg9 : BitVec 32 := Scf.iv c0_i32_42 c1_i32_44 k0_t2
  let v228 : Index := Scalar.indexCast arg9
  let c32 : Index := 32#32
  ![v228.toNat, 32]
def k0_off14 (k0_t2 : Fin k0_t2_loop.trips) : Fin 2 → Nat :=
  let c0_i32_42 : BitVec 32 := 0#32
  let c1_i32_44 : BitVec 32 := 1#32
  let arg9 : BitVec 32 := Scf.iv c0_i32_42 c1_i32_44 k0_t2
  let v230 : Index := Scalar.indexCast arg9
  let c48 : Index := 48#32
  ![v230.toNat, 48]
def k0_off15 (k0_t2 : Fin k0_t2_loop.trips) : Fin 2 → Nat :=
  let c0_i32_42 : BitVec 32 := 0#32
  let c1_i32_44 : BitVec 32 := 1#32
  let arg9 : BitVec 32 := Scf.iv c0_i32_42 c1_i32_44 k0_t2
  let v232 : Index := Scalar.indexCast arg9
  let c64 : Index := 64#32
  ![v232.toNat, 64]
def k0_off16 (k0_t2 : Fin k0_t2_loop.trips) : Fin 2 → Nat :=
  let c0_i32_42 : BitVec 32 := 0#32
  let c1_i32_44 : BitVec 32 := 1#32
  let arg9 : BitVec 32 := Scf.iv c0_i32_42 c1_i32_44 k0_t2
  let v234 : Index := Scalar.indexCast arg9
  let c80 : Index := 80#32
  ![v234.toNat, 80]
def k0_off17 (k0_t2 : Fin k0_t2_loop.trips) : Fin 2 → Nat :=
  let c0_i32_42 : BitVec 32 := 0#32
  let c1_i32_44 : BitVec 32 := 1#32
  let arg9 : BitVec 32 := Scf.iv c0_i32_42 c1_i32_44 k0_t2
  let v236 : Index := Scalar.indexCast arg9
  let c96 : Index := 96#32
  ![v236.toNat, 96]
def k0_off18 (k0_t2 : Fin k0_t2_loop.trips) : Fin 2 → Nat :=
  let c0_i32_42 : BitVec 32 := 0#32
  let c1_i32_44 : BitVec 32 := 1#32
  let arg9 : BitVec 32 := Scf.iv c0_i32_42 c1_i32_44 k0_t2
  let v238 : Index := Scalar.indexCast arg9
  let c112 : Index := 112#32
  ![v238.toNat, 112]

def k0_chk17 (v113 : IVec S16 32) (v115 : IVec S16 32) : Prop :=
  (∀ a x, ((![v113, v115] : Fin 2 → IVec S16 32) a x).toNat < S26x128.size a)
theorem k0_idx17_inb : ∀ (v113 : IVec S16 32) (v115 : IVec S16 32) (k0_hw17 : k0_chk17 v113 v115), ∀ a x, ((![v113, v115] : Fin 2 → IVec S16 32) a x).toNat < S26x128.size a := fun v113 v115 k0_hw17 => k0_hw17

def k0_chk18 (v115 : IVec S16 32) (v125 : IVec S16 32) : Prop :=
  (∀ a x, ((![v125, v115] : Fin 2 → IVec S16 32) a x).toNat < S200x128.size a)
theorem k0_idx18_inb : ∀ (v115 : IVec S16 32) (v125 : IVec S16 32) (k0_hw18 : k0_chk18 v115 v125), ∀ a x, ((![v125, v115] : Fin 2 → IVec S16 32) a x).toNat < S200x128.size a := fun v115 v125 k0_hw18 => k0_hw18

def k0_chk19 (v113 : IVec S16 32) (v127 : IVec S16 32) : Prop :=
  (∀ a x, ((![v113, v127] : Fin 2 → IVec S16 32) a x).toNat < S26x128.size a)
theorem k0_idx19_inb : ∀ (v113 : IVec S16 32) (v127 : IVec S16 32) (k0_hw19 : k0_chk19 v113 v127), ∀ a x, ((![v113, v127] : Fin 2 → IVec S16 32) a x).toNat < S26x128.size a := fun v113 v127 k0_hw19 => k0_hw19

def k0_chk20 (v127 : IVec S16 32) (v137 : IVec S16 32) : Prop :=
  (∀ a x, ((![v137, v127] : Fin 2 → IVec S16 32) a x).toNat < S200x128.size a)
theorem k0_idx20_inb : ∀ (v127 : IVec S16 32) (v137 : IVec S16 32) (k0_hw20 : k0_chk20 v127 v137), ∀ a x, ((![v137, v127] : Fin 2 → IVec S16 32) a x).toNat < S200x128.size a := fun v127 v137 k0_hw20 => k0_hw20

def k0_chk21 (v113 : IVec S16 32) (v139 : IVec S16 32) : Prop :=
  (∀ a x, ((![v113, v139] : Fin 2 → IVec S16 32) a x).toNat < S26x128.size a)
theorem k0_idx21_inb : ∀ (v113 : IVec S16 32) (v139 : IVec S16 32) (k0_hw21 : k0_chk21 v113 v139), ∀ a x, ((![v113, v139] : Fin 2 → IVec S16 32) a x).toNat < S26x128.size a := fun v113 v139 k0_hw21 => k0_hw21

def k0_chk22 (v139 : IVec S16 32) (v149 : IVec S16 32) : Prop :=
  (∀ a x, ((![v149, v139] : Fin 2 → IVec S16 32) a x).toNat < S200x128.size a)
theorem k0_idx22_inb : ∀ (v139 : IVec S16 32) (v149 : IVec S16 32) (k0_hw22 : k0_chk22 v139 v149), ∀ a x, ((![v149, v139] : Fin 2 → IVec S16 32) a x).toNat < S200x128.size a := fun v139 v149 k0_hw22 => k0_hw22

def k0_chk23 (v113 : IVec S16 32) (v151 : IVec S16 32) : Prop :=
  (∀ a x, ((![v113, v151] : Fin 2 → IVec S16 32) a x).toNat < S26x128.size a)
theorem k0_idx23_inb : ∀ (v113 : IVec S16 32) (v151 : IVec S16 32) (k0_hw23 : k0_chk23 v113 v151), ∀ a x, ((![v113, v151] : Fin 2 → IVec S16 32) a x).toNat < S26x128.size a := fun v113 v151 k0_hw23 => k0_hw23

def k0_chk24 (v151 : IVec S16 32) (v161 : IVec S16 32) : Prop :=
  (∀ a x, ((![v161, v151] : Fin 2 → IVec S16 32) a x).toNat < S200x128.size a)
theorem k0_idx24_inb : ∀ (v151 : IVec S16 32) (v161 : IVec S16 32) (k0_hw24 : k0_chk24 v151 v161), ∀ a x, ((![v161, v151] : Fin 2 → IVec S16 32) a x).toNat < S200x128.size a := fun v151 v161 k0_hw24 => k0_hw24

def k0_chk25 (v113 : IVec S16 32) (v163 : IVec S16 32) : Prop :=
  (∀ a x, ((![v113, v163] : Fin 2 → IVec S16 32) a x).toNat < S26x128.size a)
theorem k0_idx25_inb : ∀ (v113 : IVec S16 32) (v163 : IVec S16 32) (k0_hw25 : k0_chk25 v113 v163), ∀ a x, ((![v113, v163] : Fin 2 → IVec S16 32) a x).toNat < S26x128.size a := fun v113 v163 k0_hw25 => k0_hw25

def k0_chk26 (v163 : IVec S16 32) (v173 : IVec S16 32) : Prop :=
  (∀ a x, ((![v173, v163] : Fin 2 → IVec S16 32) a x).toNat < S200x128.size a)
theorem k0_idx26_inb : ∀ (v163 : IVec S16 32) (v173 : IVec S16 32) (k0_hw26 : k0_chk26 v163 v173), ∀ a x, ((![v173, v163] : Fin 2 → IVec S16 32) a x).toNat < S200x128.size a := fun v163 v173 k0_hw26 => k0_hw26

def k0_chk27 (v113 : IVec S16 32) (v175 : IVec S16 32) : Prop :=
  (∀ a x, ((![v113, v175] : Fin 2 → IVec S16 32) a x).toNat < S26x128.size a)
theorem k0_idx27_inb : ∀ (v113 : IVec S16 32) (v175 : IVec S16 32) (k0_hw27 : k0_chk27 v113 v175), ∀ a x, ((![v113, v175] : Fin 2 → IVec S16 32) a x).toNat < S26x128.size a := fun v113 v175 k0_hw27 => k0_hw27

def k0_chk28 (v175 : IVec S16 32) (v185 : IVec S16 32) : Prop :=
  (∀ a x, ((![v185, v175] : Fin 2 → IVec S16 32) a x).toNat < S200x128.size a)
theorem k0_idx28_inb : ∀ (v175 : IVec S16 32) (v185 : IVec S16 32) (k0_hw28 : k0_chk28 v175 v185), ∀ a x, ((![v185, v175] : Fin 2 → IVec S16 32) a x).toNat < S200x128.size a := fun v175 v185 k0_hw28 => k0_hw28

def k0_chk29 (v113 : IVec S16 32) (v187 : IVec S16 32) : Prop :=
  (∀ a x, ((![v113, v187] : Fin 2 → IVec S16 32) a x).toNat < S26x128.size a)
theorem k0_idx29_inb : ∀ (v113 : IVec S16 32) (v187 : IVec S16 32) (k0_hw29 : k0_chk29 v113 v187), ∀ a x, ((![v113, v187] : Fin 2 → IVec S16 32) a x).toNat < S26x128.size a := fun v113 v187 k0_hw29 => k0_hw29

def k0_chk30 (v187 : IVec S16 32) (v197 : IVec S16 32) : Prop :=
  (∀ a x, ((![v197, v187] : Fin 2 → IVec S16 32) a x).toNat < S200x128.size a)
theorem k0_idx30_inb : ∀ (v187 : IVec S16 32) (v197 : IVec S16 32) (k0_hw30 : k0_chk30 v187 v197), ∀ a x, ((![v197, v187] : Fin 2 → IVec S16 32) a x).toNat < S200x128.size a := fun v187 v197 k0_hw30 => k0_hw30

def k0_chk31 (v113 : IVec S16 32) (v199 : IVec S16 32) : Prop :=
  (∀ a x, ((![v113, v199] : Fin 2 → IVec S16 32) a x).toNat < S26x128.size a)
theorem k0_idx31_inb : ∀ (v113 : IVec S16 32) (v199 : IVec S16 32) (k0_hw31 : k0_chk31 v113 v199), ∀ a x, ((![v113, v199] : Fin 2 → IVec S16 32) a x).toNat < S26x128.size a := fun v113 v199 k0_hw31 => k0_hw31

def k0_chk32 (v199 : IVec S16 32) (v209 : IVec S16 32) : Prop :=
  (∀ a x, ((![v209, v199] : Fin 2 → IVec S16 32) a x).toNat < S200x128.size a)
theorem k0_idx32_inb : ∀ (v199 : IVec S16 32) (v209 : IVec S16 32) (k0_hw32 : k0_chk32 v199 v209), ∀ a x, ((![v209, v199] : Fin 2 → IVec S16 32) a x).toNat < S200x128.size a := fun v199 v209 k0_hw32 => k0_hw32
def k0_off19 (i : grid0.Coords) : Fin 3 → Nat :=
  let c0_i32_87 : BitVec 32 := 0#32
  let c200_i32_88 : BitVec 32 := 200#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 200, v2.toNat]
@[reducible] def k0_t3_loop : Scf.Loop 32 :=
  let c1_i32_91 : BitVec 32 := 1#32
  let c64_i32_92 : BitVec 32 := 64#32
  let v214 : BitVec 32 := Scalar.addi c1_i32_91 c64_i32_92
  let c1_i32_93 : BitVec 32 := 1#32
  ⟨c1_i32_91, v214, c1_i32_93⟩
def k0_off20 (i : grid0.Coords) (k0_t3 : Fin k0_t3_loop.trips) : Fin 3 → Nat :=
  let c1_i32_91 : BitVec 32 := 1#32
  let c1_i32_93 : BitVec 32 := 1#32
  let arg9 : BitVec 32 := Scf.iv c1_i32_91 c1_i32_93 k0_t3
  let c2_i32_98 : BitVec 32 := 2#32
  let v224 : BitVec 32 := Scalar.muli arg9 c2_i32_98
  let c0_i32_99 : BitVec 32 := 0#32
  let v225 : BitVec 32 := Scalar.addi v224 c0_i32_99
  let c2_i32_100 : BitVec 32 := 2#32
  let v226 : BitVec 32 := Scalar.subi v225 c2_i32_100
  let c0_i32_101 : BitVec 32 := 0#32
  let v228 : BitVec 1 := Scalar.cmpi .sgt v226 c0_i32_101
  let v229 : BitVec 32 := Scalar.extui v228
  let c0_i32_102 : BitVec 32 := 0#32
  let v230 : BitVec 1 := Scalar.cmpi .slt v226 c0_i32_102
  let v231 : BitVec 32 := Scalar.extui v230
  let v232 : BitVec 32 := Scalar.subi v229 v231
  let c5_i32 : BitVec 32 := 5#32
  let c0_i32_103 : BitVec 32 := 0#32
  let v233 : BitVec 1 := Scalar.cmpi .sgt c5_i32 c0_i32_103
  let v234 : BitVec 32 := Scalar.extui v233
  let c0_i32_104 : BitVec 32 := 0#32
  let v235 : BitVec 1 := Scalar.cmpi .slt c5_i32 c0_i32_104
  let v236 : BitVec 32 := Scalar.extui v235
  let v237 : BitVec 32 := Scalar.subi v234 v236
  let v238 : BitVec 1 := Scalar.cmpi .ne v232 v237
  let v239 : BitVec 32 := Scalar.remsi v226 c5_i32
  let c0_i32_105 : BitVec 32 := 0#32
  let v240 : BitVec 1 := Scalar.cmpi .ne v239 c0_i32_105
  let v241 : BitVec 1 := Scalar.andi v238 v240
  let v227 : BitVec 32 := Scalar.divsi v226 c5_i32
  let c1_i32_106 : BitVec 32 := 1#32
  let v242 : BitVec 32 := Scalar.subi v227 c1_i32_106
  let v243 : BitVec 32 := Scalar.select v241 v242 v227
  let c5_i32_107 : BitVec 32 := 5#32
  let c0_i32_108 : BitVec 32 := 0#32
  let v244 : BitVec 1 := Scalar.cmpi .eq c5_i32_107 c0_i32_108
  let c1_i32_109 : BitVec 32 := 1#32
  let v245 : BitVec 32 := Scalar.select v244 c1_i32_109 c5_i32_107
  let v246 : BitVec 32 := Scalar.remsi v226 v245
  let c0_i32_111 : BitVec 32 := 0#32
  let v248 : BitVec 1 := Scalar.cmpi .slt v246 c0_i32_111
  let c0_i32_112 : BitVec 32 := 0#32
  let v249 : BitVec 1 := Scalar.cmpi .slt v245 c0_i32_112
  let v250 : BitVec 1 := Scalar.xori v248 v249
  let c0_i32_110 : BitVec 32 := 0#32
  let v247 : BitVec 1 := Scalar.cmpi .ne v246 c0_i32_110
  let v251 : BitVec 1 := Scalar.andi v250 v247
  let v252 : BitVec 32 := Scalar.addi v246 v245
  let v253 : BitVec 32 := Scalar.select v251 v252 v246
  let c200_i32_113 : BitVec 32 := 200#32
  let v254 : BitVec 32 := Scalar.muli v253 c200_i32_113
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v243.toNat, v254.toNat, v2.toNat]

def k0_chk33 (v288 : IVec S16 32) (v290 : IVec S16 32) : Prop :=
  (∀ a x, ((![v288, v290] : Fin 2 → IVec S16 32) a x).toNat < S26x128.size a)
theorem k0_idx33_inb : ∀ (v288 : IVec S16 32) (v290 : IVec S16 32) (k0_hw33 : k0_chk33 v288 v290), ∀ a x, ((![v288, v290] : Fin 2 → IVec S16 32) a x).toNat < S26x128.size a := fun v288 v290 k0_hw33 => k0_hw33

def k0_chk34 (v290 : IVec S16 32) (v300 : IVec S16 32) : Prop :=
  (∀ a x, ((![v300, v290] : Fin 2 → IVec S16 32) a x).toNat < S200x128.size a)
theorem k0_idx34_inb : ∀ (v290 : IVec S16 32) (v300 : IVec S16 32) (k0_hw34 : k0_chk34 v290 v300), ∀ a x, ((![v300, v290] : Fin 2 → IVec S16 32) a x).toNat < S200x128.size a := fun v290 v300 k0_hw34 => k0_hw34

def k0_chk35 (v288 : IVec S16 32) (v302 : IVec S16 32) : Prop :=
  (∀ a x, ((![v288, v302] : Fin 2 → IVec S16 32) a x).toNat < S26x128.size a)
theorem k0_idx35_inb : ∀ (v288 : IVec S16 32) (v302 : IVec S16 32) (k0_hw35 : k0_chk35 v288 v302), ∀ a x, ((![v288, v302] : Fin 2 → IVec S16 32) a x).toNat < S26x128.size a := fun v288 v302 k0_hw35 => k0_hw35

def k0_chk36 (v302 : IVec S16 32) (v312 : IVec S16 32) : Prop :=
  (∀ a x, ((![v312, v302] : Fin 2 → IVec S16 32) a x).toNat < S200x128.size a)
theorem k0_idx36_inb : ∀ (v302 : IVec S16 32) (v312 : IVec S16 32) (k0_hw36 : k0_chk36 v302 v312), ∀ a x, ((![v312, v302] : Fin 2 → IVec S16 32) a x).toNat < S200x128.size a := fun v302 v312 k0_hw36 => k0_hw36

def k0_chk37 (v288 : IVec S16 32) (v314 : IVec S16 32) : Prop :=
  (∀ a x, ((![v288, v314] : Fin 2 → IVec S16 32) a x).toNat < S26x128.size a)
theorem k0_idx37_inb : ∀ (v288 : IVec S16 32) (v314 : IVec S16 32) (k0_hw37 : k0_chk37 v288 v314), ∀ a x, ((![v288, v314] : Fin 2 → IVec S16 32) a x).toNat < S26x128.size a := fun v288 v314 k0_hw37 => k0_hw37

def k0_chk38 (v314 : IVec S16 32) (v324 : IVec S16 32) : Prop :=
  (∀ a x, ((![v324, v314] : Fin 2 → IVec S16 32) a x).toNat < S200x128.size a)
theorem k0_idx38_inb : ∀ (v314 : IVec S16 32) (v324 : IVec S16 32) (k0_hw38 : k0_chk38 v314 v324), ∀ a x, ((![v324, v314] : Fin 2 → IVec S16 32) a x).toNat < S200x128.size a := fun v314 v324 k0_hw38 => k0_hw38

def k0_chk39 (v288 : IVec S16 32) (v326 : IVec S16 32) : Prop :=
  (∀ a x, ((![v288, v326] : Fin 2 → IVec S16 32) a x).toNat < S26x128.size a)
theorem k0_idx39_inb : ∀ (v288 : IVec S16 32) (v326 : IVec S16 32) (k0_hw39 : k0_chk39 v288 v326), ∀ a x, ((![v288, v326] : Fin 2 → IVec S16 32) a x).toNat < S26x128.size a := fun v288 v326 k0_hw39 => k0_hw39

def k0_chk40 (v326 : IVec S16 32) (v336 : IVec S16 32) : Prop :=
  (∀ a x, ((![v336, v326] : Fin 2 → IVec S16 32) a x).toNat < S200x128.size a)
theorem k0_idx40_inb : ∀ (v326 : IVec S16 32) (v336 : IVec S16 32) (k0_hw40 : k0_chk40 v326 v336), ∀ a x, ((![v336, v326] : Fin 2 → IVec S16 32) a x).toNat < S200x128.size a := fun v326 v336 k0_hw40 => k0_hw40

def k0_chk41 (v288 : IVec S16 32) (v338 : IVec S16 32) : Prop :=
  (∀ a x, ((![v288, v338] : Fin 2 → IVec S16 32) a x).toNat < S26x128.size a)
theorem k0_idx41_inb : ∀ (v288 : IVec S16 32) (v338 : IVec S16 32) (k0_hw41 : k0_chk41 v288 v338), ∀ a x, ((![v288, v338] : Fin 2 → IVec S16 32) a x).toNat < S26x128.size a := fun v288 v338 k0_hw41 => k0_hw41

def k0_chk42 (v338 : IVec S16 32) (v348 : IVec S16 32) : Prop :=
  (∀ a x, ((![v348, v338] : Fin 2 → IVec S16 32) a x).toNat < S200x128.size a)
theorem k0_idx42_inb : ∀ (v338 : IVec S16 32) (v348 : IVec S16 32) (k0_hw42 : k0_chk42 v338 v348), ∀ a x, ((![v348, v338] : Fin 2 → IVec S16 32) a x).toNat < S200x128.size a := fun v338 v348 k0_hw42 => k0_hw42

def k0_chk43 (v288 : IVec S16 32) (v350 : IVec S16 32) : Prop :=
  (∀ a x, ((![v288, v350] : Fin 2 → IVec S16 32) a x).toNat < S26x128.size a)
theorem k0_idx43_inb : ∀ (v288 : IVec S16 32) (v350 : IVec S16 32) (k0_hw43 : k0_chk43 v288 v350), ∀ a x, ((![v288, v350] : Fin 2 → IVec S16 32) a x).toNat < S26x128.size a := fun v288 v350 k0_hw43 => k0_hw43

def k0_chk44 (v350 : IVec S16 32) (v360 : IVec S16 32) : Prop :=
  (∀ a x, ((![v360, v350] : Fin 2 → IVec S16 32) a x).toNat < S200x128.size a)
theorem k0_idx44_inb : ∀ (v350 : IVec S16 32) (v360 : IVec S16 32) (k0_hw44 : k0_chk44 v350 v360), ∀ a x, ((![v360, v350] : Fin 2 → IVec S16 32) a x).toNat < S200x128.size a := fun v350 v360 k0_hw44 => k0_hw44

def k0_chk45 (v288 : IVec S16 32) (v362 : IVec S16 32) : Prop :=
  (∀ a x, ((![v288, v362] : Fin 2 → IVec S16 32) a x).toNat < S26x128.size a)
theorem k0_idx45_inb : ∀ (v288 : IVec S16 32) (v362 : IVec S16 32) (k0_hw45 : k0_chk45 v288 v362), ∀ a x, ((![v288, v362] : Fin 2 → IVec S16 32) a x).toNat < S26x128.size a := fun v288 v362 k0_hw45 => k0_hw45

def k0_chk46 (v362 : IVec S16 32) (v372 : IVec S16 32) : Prop :=
  (∀ a x, ((![v372, v362] : Fin 2 → IVec S16 32) a x).toNat < S200x128.size a)
theorem k0_idx46_inb : ∀ (v362 : IVec S16 32) (v372 : IVec S16 32) (k0_hw46 : k0_chk46 v362 v372), ∀ a x, ((![v372, v362] : Fin 2 → IVec S16 32) a x).toNat < S200x128.size a := fun v362 v372 k0_hw46 => k0_hw46

def k0_chk47 (v288 : IVec S16 32) (v374 : IVec S16 32) : Prop :=
  (∀ a x, ((![v288, v374] : Fin 2 → IVec S16 32) a x).toNat < S26x128.size a)
theorem k0_idx47_inb : ∀ (v288 : IVec S16 32) (v374 : IVec S16 32) (k0_hw47 : k0_chk47 v288 v374), ∀ a x, ((![v288, v374] : Fin 2 → IVec S16 32) a x).toNat < S26x128.size a := fun v288 v374 k0_hw47 => k0_hw47

def k0_chk48 (v374 : IVec S16 32) (v384 : IVec S16 32) : Prop :=
  (∀ a x, ((![v384, v374] : Fin 2 → IVec S16 32) a x).toNat < S200x128.size a)
theorem k0_idx48_inb : ∀ (v374 : IVec S16 32) (v384 : IVec S16 32) (k0_hw48 : k0_chk48 v374 v384), ∀ a x, ((![v384, v374] : Fin 2 → IVec S16 32) a x).toNat < S200x128.size a := fun v374 v384 k0_hw48 => k0_hw48

def k0_chk49 (v414 : IVec S16 32) (v416 : IVec S16 32) : Prop :=
  (∀ a x, ((![v414, v416] : Fin 2 → IVec S16 32) a x).toNat < S26x128.size a)
theorem k0_idx49_inb : ∀ (v414 : IVec S16 32) (v416 : IVec S16 32) (k0_hw49 : k0_chk49 v414 v416), ∀ a x, ((![v414, v416] : Fin 2 → IVec S16 32) a x).toNat < S26x128.size a := fun v414 v416 k0_hw49 => k0_hw49

def k0_chk50 (v416 : IVec S16 32) (v426 : IVec S16 32) : Prop :=
  (∀ a x, ((![v426, v416] : Fin 2 → IVec S16 32) a x).toNat < S200x128.size a)
theorem k0_idx50_inb : ∀ (v416 : IVec S16 32) (v426 : IVec S16 32) (k0_hw50 : k0_chk50 v416 v426), ∀ a x, ((![v426, v416] : Fin 2 → IVec S16 32) a x).toNat < S200x128.size a := fun v416 v426 k0_hw50 => k0_hw50

def k0_chk51 (v414 : IVec S16 32) (v428 : IVec S16 32) : Prop :=
  (∀ a x, ((![v414, v428] : Fin 2 → IVec S16 32) a x).toNat < S26x128.size a)
theorem k0_idx51_inb : ∀ (v414 : IVec S16 32) (v428 : IVec S16 32) (k0_hw51 : k0_chk51 v414 v428), ∀ a x, ((![v414, v428] : Fin 2 → IVec S16 32) a x).toNat < S26x128.size a := fun v414 v428 k0_hw51 => k0_hw51

def k0_chk52 (v428 : IVec S16 32) (v438 : IVec S16 32) : Prop :=
  (∀ a x, ((![v438, v428] : Fin 2 → IVec S16 32) a x).toNat < S200x128.size a)
theorem k0_idx52_inb : ∀ (v428 : IVec S16 32) (v438 : IVec S16 32) (k0_hw52 : k0_chk52 v428 v438), ∀ a x, ((![v438, v428] : Fin 2 → IVec S16 32) a x).toNat < S200x128.size a := fun v428 v438 k0_hw52 => k0_hw52

def k0_chk53 (v414 : IVec S16 32) (v440 : IVec S16 32) : Prop :=
  (∀ a x, ((![v414, v440] : Fin 2 → IVec S16 32) a x).toNat < S26x128.size a)
theorem k0_idx53_inb : ∀ (v414 : IVec S16 32) (v440 : IVec S16 32) (k0_hw53 : k0_chk53 v414 v440), ∀ a x, ((![v414, v440] : Fin 2 → IVec S16 32) a x).toNat < S26x128.size a := fun v414 v440 k0_hw53 => k0_hw53

def k0_chk54 (v440 : IVec S16 32) (v450 : IVec S16 32) : Prop :=
  (∀ a x, ((![v450, v440] : Fin 2 → IVec S16 32) a x).toNat < S200x128.size a)
theorem k0_idx54_inb : ∀ (v440 : IVec S16 32) (v450 : IVec S16 32) (k0_hw54 : k0_chk54 v440 v450), ∀ a x, ((![v450, v440] : Fin 2 → IVec S16 32) a x).toNat < S200x128.size a := fun v440 v450 k0_hw54 => k0_hw54

def k0_chk55 (v414 : IVec S16 32) (v452 : IVec S16 32) : Prop :=
  (∀ a x, ((![v414, v452] : Fin 2 → IVec S16 32) a x).toNat < S26x128.size a)
theorem k0_idx55_inb : ∀ (v414 : IVec S16 32) (v452 : IVec S16 32) (k0_hw55 : k0_chk55 v414 v452), ∀ a x, ((![v414, v452] : Fin 2 → IVec S16 32) a x).toNat < S26x128.size a := fun v414 v452 k0_hw55 => k0_hw55

def k0_chk56 (v452 : IVec S16 32) (v462 : IVec S16 32) : Prop :=
  (∀ a x, ((![v462, v452] : Fin 2 → IVec S16 32) a x).toNat < S200x128.size a)
theorem k0_idx56_inb : ∀ (v452 : IVec S16 32) (v462 : IVec S16 32) (k0_hw56 : k0_chk56 v452 v462), ∀ a x, ((![v462, v452] : Fin 2 → IVec S16 32) a x).toNat < S200x128.size a := fun v452 v462 k0_hw56 => k0_hw56

def k0_chk57 (v414 : IVec S16 32) (v464 : IVec S16 32) : Prop :=
  (∀ a x, ((![v414, v464] : Fin 2 → IVec S16 32) a x).toNat < S26x128.size a)
theorem k0_idx57_inb : ∀ (v414 : IVec S16 32) (v464 : IVec S16 32) (k0_hw57 : k0_chk57 v414 v464), ∀ a x, ((![v414, v464] : Fin 2 → IVec S16 32) a x).toNat < S26x128.size a := fun v414 v464 k0_hw57 => k0_hw57

def k0_chk58 (v464 : IVec S16 32) (v474 : IVec S16 32) : Prop :=
  (∀ a x, ((![v474, v464] : Fin 2 → IVec S16 32) a x).toNat < S200x128.size a)
theorem k0_idx58_inb : ∀ (v464 : IVec S16 32) (v474 : IVec S16 32) (k0_hw58 : k0_chk58 v464 v474), ∀ a x, ((![v474, v464] : Fin 2 → IVec S16 32) a x).toNat < S200x128.size a := fun v464 v474 k0_hw58 => k0_hw58

def k0_chk59 (v414 : IVec S16 32) (v476 : IVec S16 32) : Prop :=
  (∀ a x, ((![v414, v476] : Fin 2 → IVec S16 32) a x).toNat < S26x128.size a)
theorem k0_idx59_inb : ∀ (v414 : IVec S16 32) (v476 : IVec S16 32) (k0_hw59 : k0_chk59 v414 v476), ∀ a x, ((![v414, v476] : Fin 2 → IVec S16 32) a x).toNat < S26x128.size a := fun v414 v476 k0_hw59 => k0_hw59

def k0_chk60 (v476 : IVec S16 32) (v486 : IVec S16 32) : Prop :=
  (∀ a x, ((![v486, v476] : Fin 2 → IVec S16 32) a x).toNat < S200x128.size a)
theorem k0_idx60_inb : ∀ (v476 : IVec S16 32) (v486 : IVec S16 32) (k0_hw60 : k0_chk60 v476 v486), ∀ a x, ((![v486, v476] : Fin 2 → IVec S16 32) a x).toNat < S200x128.size a := fun v476 v486 k0_hw60 => k0_hw60

def k0_chk61 (v414 : IVec S16 32) (v488 : IVec S16 32) : Prop :=
  (∀ a x, ((![v414, v488] : Fin 2 → IVec S16 32) a x).toNat < S26x128.size a)
theorem k0_idx61_inb : ∀ (v414 : IVec S16 32) (v488 : IVec S16 32) (k0_hw61 : k0_chk61 v414 v488), ∀ a x, ((![v414, v488] : Fin 2 → IVec S16 32) a x).toNat < S26x128.size a := fun v414 v488 k0_hw61 => k0_hw61

def k0_chk62 (v488 : IVec S16 32) (v498 : IVec S16 32) : Prop :=
  (∀ a x, ((![v498, v488] : Fin 2 → IVec S16 32) a x).toNat < S200x128.size a)
theorem k0_idx62_inb : ∀ (v488 : IVec S16 32) (v498 : IVec S16 32) (k0_hw62 : k0_chk62 v488 v498), ∀ a x, ((![v498, v488] : Fin 2 → IVec S16 32) a x).toNat < S200x128.size a := fun v488 v498 k0_hw62 => k0_hw62

def k0_chk63 (v414 : IVec S16 32) (v500 : IVec S16 32) : Prop :=
  (∀ a x, ((![v414, v500] : Fin 2 → IVec S16 32) a x).toNat < S26x128.size a)
theorem k0_idx63_inb : ∀ (v414 : IVec S16 32) (v500 : IVec S16 32) (k0_hw63 : k0_chk63 v414 v500), ∀ a x, ((![v414, v500] : Fin 2 → IVec S16 32) a x).toNat < S26x128.size a := fun v414 v500 k0_hw63 => k0_hw63

def k0_chk64 (v500 : IVec S16 32) (v510 : IVec S16 32) : Prop :=
  (∀ a x, ((![v510, v500] : Fin 2 → IVec S16 32) a x).toNat < S200x128.size a)
theorem k0_idx64_inb : ∀ (v500 : IVec S16 32) (v510 : IVec S16 32) (k0_hw64 : k0_chk64 v500 v510), ∀ a x, ((![v510, v500] : Fin 2 → IVec S16 32) a x).toNat < S200x128.size a := fun v500 v510 k0_hw64 => k0_hw64
def k0_off21 (i : grid0.Coords) (k0_t3 : Fin k0_t3_loop.trips) : Fin 3 → Nat :=
  let c1_i32_91 : BitVec 32 := 1#32
  let c1_i32_93 : BitVec 32 := 1#32
  let arg9 : BitVec 32 := Scf.iv c1_i32_91 c1_i32_93 k0_t3
  let c2_i32_98 : BitVec 32 := 2#32
  let v224 : BitVec 32 := Scalar.muli arg9 c2_i32_98
  let c0_i32_99 : BitVec 32 := 0#32
  let v225 : BitVec 32 := Scalar.addi v224 c0_i32_99
  let c0_i32_207 : BitVec 32 := 0#32
  let v512 : BitVec 1 := Scalar.cmpi .sgt v225 c0_i32_207
  let v513 : BitVec 32 := Scalar.extui v512
  let c0_i32_208 : BitVec 32 := 0#32
  let v514 : BitVec 1 := Scalar.cmpi .slt v225 c0_i32_208
  let v515 : BitVec 32 := Scalar.extui v514
  let v516 : BitVec 32 := Scalar.subi v513 v515
  let c5_i32_206 : BitVec 32 := 5#32
  let c0_i32_209 : BitVec 32 := 0#32
  let v517 : BitVec 1 := Scalar.cmpi .sgt c5_i32_206 c0_i32_209
  let v518 : BitVec 32 := Scalar.extui v517
  let c0_i32_210 : BitVec 32 := 0#32
  let v519 : BitVec 1 := Scalar.cmpi .slt c5_i32_206 c0_i32_210
  let v520 : BitVec 32 := Scalar.extui v519
  let v521 : BitVec 32 := Scalar.subi v518 v520
  let v522 : BitVec 1 := Scalar.cmpi .ne v516 v521
  let v523 : BitVec 32 := Scalar.remsi v225 c5_i32_206
  let c0_i32_211 : BitVec 32 := 0#32
  let v524 : BitVec 1 := Scalar.cmpi .ne v523 c0_i32_211
  let v525 : BitVec 1 := Scalar.andi v522 v524
  let v511 : BitVec 32 := Scalar.divsi v225 c5_i32_206
  let c1_i32_212 : BitVec 32 := 1#32
  let v526 : BitVec 32 := Scalar.subi v511 c1_i32_212
  let v527 : BitVec 32 := Scalar.select v525 v526 v511
  let c5_i32_213 : BitVec 32 := 5#32
  let c0_i32_214 : BitVec 32 := 0#32
  let v528 : BitVec 1 := Scalar.cmpi .eq c5_i32_213 c0_i32_214
  let c1_i32_215 : BitVec 32 := 1#32
  let v529 : BitVec 32 := Scalar.select v528 c1_i32_215 c5_i32_213
  let v530 : BitVec 32 := Scalar.remsi v225 v529
  let c0_i32_217 : BitVec 32 := 0#32
  let v532 : BitVec 1 := Scalar.cmpi .slt v530 c0_i32_217
  let c0_i32_218 : BitVec 32 := 0#32
  let v533 : BitVec 1 := Scalar.cmpi .slt v529 c0_i32_218
  let v534 : BitVec 1 := Scalar.xori v532 v533
  let c0_i32_216 : BitVec 32 := 0#32
  let v531 : BitVec 1 := Scalar.cmpi .ne v530 c0_i32_216
  let v535 : BitVec 1 := Scalar.andi v534 v531
  let v536 : BitVec 32 := Scalar.addi v530 v529
  let v537 : BitVec 32 := Scalar.select v535 v536 v530
  let c200_i32_219 : BitVec 32 := 200#32
  let v538 : BitVec 32 := Scalar.muli v537 c200_i32_219
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v527.toNat, v538.toNat, v2.toNat]
def k0_off22 (i : grid0.Coords) (k0_t3 : Fin k0_t3_loop.trips) : Fin 3 → Nat :=
  let c1_i32_91 : BitVec 32 := 1#32
  let c1_i32_93 : BitVec 32 := 1#32
  let arg9 : BitVec 32 := Scf.iv c1_i32_91 c1_i32_93 k0_t3
  let c2_i32_220 : BitVec 32 := 2#32
  let v543 : BitVec 32 := Scalar.muli arg9 c2_i32_220
  let c1_i32_221 : BitVec 32 := 1#32
  let v544 : BitVec 32 := Scalar.addi v543 c1_i32_221
  let c2_i32_222 : BitVec 32 := 2#32
  let v545 : BitVec 32 := Scalar.subi v544 c2_i32_222
  let c0_i32_224 : BitVec 32 := 0#32
  let v547 : BitVec 1 := Scalar.cmpi .sgt v545 c0_i32_224
  let v548 : BitVec 32 := Scalar.extui v547
  let c0_i32_225 : BitVec 32 := 0#32
  let v549 : BitVec 1 := Scalar.cmpi .slt v545 c0_i32_225
  let v550 : BitVec 32 := Scalar.extui v549
  let v551 : BitVec 32 := Scalar.subi v548 v550
  let c5_i32_223 : BitVec 32 := 5#32
  let c0_i32_226 : BitVec 32 := 0#32
  let v552 : BitVec 1 := Scalar.cmpi .sgt c5_i32_223 c0_i32_226
  let v553 : BitVec 32 := Scalar.extui v552
  let c0_i32_227 : BitVec 32 := 0#32
  let v554 : BitVec 1 := Scalar.cmpi .slt c5_i32_223 c0_i32_227
  let v555 : BitVec 32 := Scalar.extui v554
  let v556 : BitVec 32 := Scalar.subi v553 v555
  let v557 : BitVec 1 := Scalar.cmpi .ne v551 v556
  let v558 : BitVec 32 := Scalar.remsi v545 c5_i32_223
  let c0_i32_228 : BitVec 32 := 0#32
  let v559 : BitVec 1 := Scalar.cmpi .ne v558 c0_i32_228
  let v560 : BitVec 1 := Scalar.andi v557 v559
  let v546 : BitVec 32 := Scalar.divsi v545 c5_i32_223
  let c1_i32_229 : BitVec 32 := 1#32
  let v561 : BitVec 32 := Scalar.subi v546 c1_i32_229
  let v562 : BitVec 32 := Scalar.select v560 v561 v546
  let c5_i32_230 : BitVec 32 := 5#32
  let c0_i32_231 : BitVec 32 := 0#32
  let v563 : BitVec 1 := Scalar.cmpi .eq c5_i32_230 c0_i32_231
  let c1_i32_232 : BitVec 32 := 1#32
  let v564 : BitVec 32 := Scalar.select v563 c1_i32_232 c5_i32_230
  let v565 : BitVec 32 := Scalar.remsi v545 v564
  let c0_i32_234 : BitVec 32 := 0#32
  let v567 : BitVec 1 := Scalar.cmpi .slt v565 c0_i32_234
  let c0_i32_235 : BitVec 32 := 0#32
  let v568 : BitVec 1 := Scalar.cmpi .slt v564 c0_i32_235
  let v569 : BitVec 1 := Scalar.xori v567 v568
  let c0_i32_233 : BitVec 32 := 0#32
  let v566 : BitVec 1 := Scalar.cmpi .ne v565 c0_i32_233
  let v570 : BitVec 1 := Scalar.andi v569 v566
  let v571 : BitVec 32 := Scalar.addi v565 v564
  let v572 : BitVec 32 := Scalar.select v570 v571 v565
  let c200_i32_236 : BitVec 32 := 200#32
  let v573 : BitVec 32 := Scalar.muli v572 c200_i32_236
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v562.toNat, v573.toNat, v2.toNat]

def k0_chk65 (v607 : IVec S16 32) (v609 : IVec S16 32) : Prop :=
  (∀ a x, ((![v607, v609] : Fin 2 → IVec S16 32) a x).toNat < S26x128.size a)
theorem k0_idx65_inb : ∀ (v607 : IVec S16 32) (v609 : IVec S16 32) (k0_hw65 : k0_chk65 v607 v609), ∀ a x, ((![v607, v609] : Fin 2 → IVec S16 32) a x).toNat < S26x128.size a := fun v607 v609 k0_hw65 => k0_hw65

def k0_chk66 (v609 : IVec S16 32) (v619 : IVec S16 32) : Prop :=
  (∀ a x, ((![v619, v609] : Fin 2 → IVec S16 32) a x).toNat < S200x128.size a)
theorem k0_idx66_inb : ∀ (v609 : IVec S16 32) (v619 : IVec S16 32) (k0_hw66 : k0_chk66 v609 v619), ∀ a x, ((![v619, v609] : Fin 2 → IVec S16 32) a x).toNat < S200x128.size a := fun v609 v619 k0_hw66 => k0_hw66

def k0_chk67 (v607 : IVec S16 32) (v621 : IVec S16 32) : Prop :=
  (∀ a x, ((![v607, v621] : Fin 2 → IVec S16 32) a x).toNat < S26x128.size a)
theorem k0_idx67_inb : ∀ (v607 : IVec S16 32) (v621 : IVec S16 32) (k0_hw67 : k0_chk67 v607 v621), ∀ a x, ((![v607, v621] : Fin 2 → IVec S16 32) a x).toNat < S26x128.size a := fun v607 v621 k0_hw67 => k0_hw67

def k0_chk68 (v621 : IVec S16 32) (v631 : IVec S16 32) : Prop :=
  (∀ a x, ((![v631, v621] : Fin 2 → IVec S16 32) a x).toNat < S200x128.size a)
theorem k0_idx68_inb : ∀ (v621 : IVec S16 32) (v631 : IVec S16 32) (k0_hw68 : k0_chk68 v621 v631), ∀ a x, ((![v631, v621] : Fin 2 → IVec S16 32) a x).toNat < S200x128.size a := fun v621 v631 k0_hw68 => k0_hw68

def k0_chk69 (v607 : IVec S16 32) (v633 : IVec S16 32) : Prop :=
  (∀ a x, ((![v607, v633] : Fin 2 → IVec S16 32) a x).toNat < S26x128.size a)
theorem k0_idx69_inb : ∀ (v607 : IVec S16 32) (v633 : IVec S16 32) (k0_hw69 : k0_chk69 v607 v633), ∀ a x, ((![v607, v633] : Fin 2 → IVec S16 32) a x).toNat < S26x128.size a := fun v607 v633 k0_hw69 => k0_hw69

def k0_chk70 (v633 : IVec S16 32) (v643 : IVec S16 32) : Prop :=
  (∀ a x, ((![v643, v633] : Fin 2 → IVec S16 32) a x).toNat < S200x128.size a)
theorem k0_idx70_inb : ∀ (v633 : IVec S16 32) (v643 : IVec S16 32) (k0_hw70 : k0_chk70 v633 v643), ∀ a x, ((![v643, v633] : Fin 2 → IVec S16 32) a x).toNat < S200x128.size a := fun v633 v643 k0_hw70 => k0_hw70

def k0_chk71 (v607 : IVec S16 32) (v645 : IVec S16 32) : Prop :=
  (∀ a x, ((![v607, v645] : Fin 2 → IVec S16 32) a x).toNat < S26x128.size a)
theorem k0_idx71_inb : ∀ (v607 : IVec S16 32) (v645 : IVec S16 32) (k0_hw71 : k0_chk71 v607 v645), ∀ a x, ((![v607, v645] : Fin 2 → IVec S16 32) a x).toNat < S26x128.size a := fun v607 v645 k0_hw71 => k0_hw71

def k0_chk72 (v645 : IVec S16 32) (v655 : IVec S16 32) : Prop :=
  (∀ a x, ((![v655, v645] : Fin 2 → IVec S16 32) a x).toNat < S200x128.size a)
theorem k0_idx72_inb : ∀ (v645 : IVec S16 32) (v655 : IVec S16 32) (k0_hw72 : k0_chk72 v645 v655), ∀ a x, ((![v655, v645] : Fin 2 → IVec S16 32) a x).toNat < S200x128.size a := fun v645 v655 k0_hw72 => k0_hw72

def k0_chk73 (v607 : IVec S16 32) (v657 : IVec S16 32) : Prop :=
  (∀ a x, ((![v607, v657] : Fin 2 → IVec S16 32) a x).toNat < S26x128.size a)
theorem k0_idx73_inb : ∀ (v607 : IVec S16 32) (v657 : IVec S16 32) (k0_hw73 : k0_chk73 v607 v657), ∀ a x, ((![v607, v657] : Fin 2 → IVec S16 32) a x).toNat < S26x128.size a := fun v607 v657 k0_hw73 => k0_hw73

def k0_chk74 (v657 : IVec S16 32) (v667 : IVec S16 32) : Prop :=
  (∀ a x, ((![v667, v657] : Fin 2 → IVec S16 32) a x).toNat < S200x128.size a)
theorem k0_idx74_inb : ∀ (v657 : IVec S16 32) (v667 : IVec S16 32) (k0_hw74 : k0_chk74 v657 v667), ∀ a x, ((![v667, v657] : Fin 2 → IVec S16 32) a x).toNat < S200x128.size a := fun v657 v667 k0_hw74 => k0_hw74

def k0_chk75 (v607 : IVec S16 32) (v669 : IVec S16 32) : Prop :=
  (∀ a x, ((![v607, v669] : Fin 2 → IVec S16 32) a x).toNat < S26x128.size a)
theorem k0_idx75_inb : ∀ (v607 : IVec S16 32) (v669 : IVec S16 32) (k0_hw75 : k0_chk75 v607 v669), ∀ a x, ((![v607, v669] : Fin 2 → IVec S16 32) a x).toNat < S26x128.size a := fun v607 v669 k0_hw75 => k0_hw75

def k0_chk76 (v669 : IVec S16 32) (v679 : IVec S16 32) : Prop :=
  (∀ a x, ((![v679, v669] : Fin 2 → IVec S16 32) a x).toNat < S200x128.size a)
theorem k0_idx76_inb : ∀ (v669 : IVec S16 32) (v679 : IVec S16 32) (k0_hw76 : k0_chk76 v669 v679), ∀ a x, ((![v679, v669] : Fin 2 → IVec S16 32) a x).toNat < S200x128.size a := fun v669 v679 k0_hw76 => k0_hw76

def k0_chk77 (v607 : IVec S16 32) (v681 : IVec S16 32) : Prop :=
  (∀ a x, ((![v607, v681] : Fin 2 → IVec S16 32) a x).toNat < S26x128.size a)
theorem k0_idx77_inb : ∀ (v607 : IVec S16 32) (v681 : IVec S16 32) (k0_hw77 : k0_chk77 v607 v681), ∀ a x, ((![v607, v681] : Fin 2 → IVec S16 32) a x).toNat < S26x128.size a := fun v607 v681 k0_hw77 => k0_hw77

def k0_chk78 (v681 : IVec S16 32) (v691 : IVec S16 32) : Prop :=
  (∀ a x, ((![v691, v681] : Fin 2 → IVec S16 32) a x).toNat < S200x128.size a)
theorem k0_idx78_inb : ∀ (v681 : IVec S16 32) (v691 : IVec S16 32) (k0_hw78 : k0_chk78 v681 v691), ∀ a x, ((![v691, v681] : Fin 2 → IVec S16 32) a x).toNat < S200x128.size a := fun v681 v691 k0_hw78 => k0_hw78

def k0_chk79 (v607 : IVec S16 32) (v693 : IVec S16 32) : Prop :=
  (∀ a x, ((![v607, v693] : Fin 2 → IVec S16 32) a x).toNat < S26x128.size a)
theorem k0_idx79_inb : ∀ (v607 : IVec S16 32) (v693 : IVec S16 32) (k0_hw79 : k0_chk79 v607 v693), ∀ a x, ((![v607, v693] : Fin 2 → IVec S16 32) a x).toNat < S26x128.size a := fun v607 v693 k0_hw79 => k0_hw79

def k0_chk80 (v693 : IVec S16 32) (v703 : IVec S16 32) : Prop :=
  (∀ a x, ((![v703, v693] : Fin 2 → IVec S16 32) a x).toNat < S200x128.size a)
theorem k0_idx80_inb : ∀ (v693 : IVec S16 32) (v703 : IVec S16 32) (k0_hw80 : k0_chk80 v693 v703), ∀ a x, ((![v703, v693] : Fin 2 → IVec S16 32) a x).toNat < S200x128.size a := fun v693 v703 k0_hw80 => k0_hw80

def k0_chk81 (v733 : IVec S16 32) (v735 : IVec S16 32) : Prop :=
  (∀ a x, ((![v733, v735] : Fin 2 → IVec S16 32) a x).toNat < S26x128.size a)
theorem k0_idx81_inb : ∀ (v733 : IVec S16 32) (v735 : IVec S16 32) (k0_hw81 : k0_chk81 v733 v735), ∀ a x, ((![v733, v735] : Fin 2 → IVec S16 32) a x).toNat < S26x128.size a := fun v733 v735 k0_hw81 => k0_hw81

def k0_chk82 (v735 : IVec S16 32) (v745 : IVec S16 32) : Prop :=
  (∀ a x, ((![v745, v735] : Fin 2 → IVec S16 32) a x).toNat < S200x128.size a)
theorem k0_idx82_inb : ∀ (v735 : IVec S16 32) (v745 : IVec S16 32) (k0_hw82 : k0_chk82 v735 v745), ∀ a x, ((![v745, v735] : Fin 2 → IVec S16 32) a x).toNat < S200x128.size a := fun v735 v745 k0_hw82 => k0_hw82

def k0_chk83 (v733 : IVec S16 32) (v747 : IVec S16 32) : Prop :=
  (∀ a x, ((![v733, v747] : Fin 2 → IVec S16 32) a x).toNat < S26x128.size a)
theorem k0_idx83_inb : ∀ (v733 : IVec S16 32) (v747 : IVec S16 32) (k0_hw83 : k0_chk83 v733 v747), ∀ a x, ((![v733, v747] : Fin 2 → IVec S16 32) a x).toNat < S26x128.size a := fun v733 v747 k0_hw83 => k0_hw83

def k0_chk84 (v747 : IVec S16 32) (v757 : IVec S16 32) : Prop :=
  (∀ a x, ((![v757, v747] : Fin 2 → IVec S16 32) a x).toNat < S200x128.size a)
theorem k0_idx84_inb : ∀ (v747 : IVec S16 32) (v757 : IVec S16 32) (k0_hw84 : k0_chk84 v747 v757), ∀ a x, ((![v757, v747] : Fin 2 → IVec S16 32) a x).toNat < S200x128.size a := fun v747 v757 k0_hw84 => k0_hw84

def k0_chk85 (v733 : IVec S16 32) (v759 : IVec S16 32) : Prop :=
  (∀ a x, ((![v733, v759] : Fin 2 → IVec S16 32) a x).toNat < S26x128.size a)
theorem k0_idx85_inb : ∀ (v733 : IVec S16 32) (v759 : IVec S16 32) (k0_hw85 : k0_chk85 v733 v759), ∀ a x, ((![v733, v759] : Fin 2 → IVec S16 32) a x).toNat < S26x128.size a := fun v733 v759 k0_hw85 => k0_hw85

def k0_chk86 (v759 : IVec S16 32) (v769 : IVec S16 32) : Prop :=
  (∀ a x, ((![v769, v759] : Fin 2 → IVec S16 32) a x).toNat < S200x128.size a)
theorem k0_idx86_inb : ∀ (v759 : IVec S16 32) (v769 : IVec S16 32) (k0_hw86 : k0_chk86 v759 v769), ∀ a x, ((![v769, v759] : Fin 2 → IVec S16 32) a x).toNat < S200x128.size a := fun v759 v769 k0_hw86 => k0_hw86

def k0_chk87 (v733 : IVec S16 32) (v771 : IVec S16 32) : Prop :=
  (∀ a x, ((![v733, v771] : Fin 2 → IVec S16 32) a x).toNat < S26x128.size a)
theorem k0_idx87_inb : ∀ (v733 : IVec S16 32) (v771 : IVec S16 32) (k0_hw87 : k0_chk87 v733 v771), ∀ a x, ((![v733, v771] : Fin 2 → IVec S16 32) a x).toNat < S26x128.size a := fun v733 v771 k0_hw87 => k0_hw87

def k0_chk88 (v771 : IVec S16 32) (v781 : IVec S16 32) : Prop :=
  (∀ a x, ((![v781, v771] : Fin 2 → IVec S16 32) a x).toNat < S200x128.size a)
theorem k0_idx88_inb : ∀ (v771 : IVec S16 32) (v781 : IVec S16 32) (k0_hw88 : k0_chk88 v771 v781), ∀ a x, ((![v781, v771] : Fin 2 → IVec S16 32) a x).toNat < S200x128.size a := fun v771 v781 k0_hw88 => k0_hw88

def k0_chk89 (v733 : IVec S16 32) (v783 : IVec S16 32) : Prop :=
  (∀ a x, ((![v733, v783] : Fin 2 → IVec S16 32) a x).toNat < S26x128.size a)
theorem k0_idx89_inb : ∀ (v733 : IVec S16 32) (v783 : IVec S16 32) (k0_hw89 : k0_chk89 v733 v783), ∀ a x, ((![v733, v783] : Fin 2 → IVec S16 32) a x).toNat < S26x128.size a := fun v733 v783 k0_hw89 => k0_hw89

def k0_chk90 (v783 : IVec S16 32) (v793 : IVec S16 32) : Prop :=
  (∀ a x, ((![v793, v783] : Fin 2 → IVec S16 32) a x).toNat < S200x128.size a)
theorem k0_idx90_inb : ∀ (v783 : IVec S16 32) (v793 : IVec S16 32) (k0_hw90 : k0_chk90 v783 v793), ∀ a x, ((![v793, v783] : Fin 2 → IVec S16 32) a x).toNat < S200x128.size a := fun v783 v793 k0_hw90 => k0_hw90

def k0_chk91 (v733 : IVec S16 32) (v795 : IVec S16 32) : Prop :=
  (∀ a x, ((![v733, v795] : Fin 2 → IVec S16 32) a x).toNat < S26x128.size a)
theorem k0_idx91_inb : ∀ (v733 : IVec S16 32) (v795 : IVec S16 32) (k0_hw91 : k0_chk91 v733 v795), ∀ a x, ((![v733, v795] : Fin 2 → IVec S16 32) a x).toNat < S26x128.size a := fun v733 v795 k0_hw91 => k0_hw91

def k0_chk92 (v795 : IVec S16 32) (v805 : IVec S16 32) : Prop :=
  (∀ a x, ((![v805, v795] : Fin 2 → IVec S16 32) a x).toNat < S200x128.size a)
theorem k0_idx92_inb : ∀ (v795 : IVec S16 32) (v805 : IVec S16 32) (k0_hw92 : k0_chk92 v795 v805), ∀ a x, ((![v805, v795] : Fin 2 → IVec S16 32) a x).toNat < S200x128.size a := fun v795 v805 k0_hw92 => k0_hw92

def k0_chk93 (v733 : IVec S16 32) (v807 : IVec S16 32) : Prop :=
  (∀ a x, ((![v733, v807] : Fin 2 → IVec S16 32) a x).toNat < S26x128.size a)
theorem k0_idx93_inb : ∀ (v733 : IVec S16 32) (v807 : IVec S16 32) (k0_hw93 : k0_chk93 v733 v807), ∀ a x, ((![v733, v807] : Fin 2 → IVec S16 32) a x).toNat < S26x128.size a := fun v733 v807 k0_hw93 => k0_hw93

def k0_chk94 (v807 : IVec S16 32) (v817 : IVec S16 32) : Prop :=
  (∀ a x, ((![v817, v807] : Fin 2 → IVec S16 32) a x).toNat < S200x128.size a)
theorem k0_idx94_inb : ∀ (v807 : IVec S16 32) (v817 : IVec S16 32) (k0_hw94 : k0_chk94 v807 v817), ∀ a x, ((![v817, v807] : Fin 2 → IVec S16 32) a x).toNat < S200x128.size a := fun v807 v817 k0_hw94 => k0_hw94

def k0_chk95 (v733 : IVec S16 32) (v819 : IVec S16 32) : Prop :=
  (∀ a x, ((![v733, v819] : Fin 2 → IVec S16 32) a x).toNat < S26x128.size a)
theorem k0_idx95_inb : ∀ (v733 : IVec S16 32) (v819 : IVec S16 32) (k0_hw95 : k0_chk95 v733 v819), ∀ a x, ((![v733, v819] : Fin 2 → IVec S16 32) a x).toNat < S26x128.size a := fun v733 v819 k0_hw95 => k0_hw95

def k0_chk96 (v819 : IVec S16 32) (v829 : IVec S16 32) : Prop :=
  (∀ a x, ((![v829, v819] : Fin 2 → IVec S16 32) a x).toNat < S200x128.size a)
theorem k0_idx96_inb : ∀ (v819 : IVec S16 32) (v829 : IVec S16 32) (k0_hw96 : k0_chk96 v819 v829), ∀ a x, ((![v829, v819] : Fin 2 → IVec S16 32) a x).toNat < S200x128.size a := fun v819 v829 k0_hw96 => k0_hw96
def k0_off23 (i : grid0.Coords) (k0_t3 : Fin k0_t3_loop.trips) : Fin 3 → Nat :=
  let c1_i32_91 : BitVec 32 := 1#32
  let c1_i32_93 : BitVec 32 := 1#32
  let arg9 : BitVec 32 := Scf.iv c1_i32_91 c1_i32_93 k0_t3
  let c2_i32_220 : BitVec 32 := 2#32
  let v543 : BitVec 32 := Scalar.muli arg9 c2_i32_220
  let c1_i32_221 : BitVec 32 := 1#32
  let v544 : BitVec 32 := Scalar.addi v543 c1_i32_221
  let c0_i32_330 : BitVec 32 := 0#32
  let v831 : BitVec 1 := Scalar.cmpi .sgt v544 c0_i32_330
  let v832 : BitVec 32 := Scalar.extui v831
  let c0_i32_331 : BitVec 32 := 0#32
  let v833 : BitVec 1 := Scalar.cmpi .slt v544 c0_i32_331
  let v834 : BitVec 32 := Scalar.extui v833
  let v835 : BitVec 32 := Scalar.subi v832 v834
  let c5_i32_329 : BitVec 32 := 5#32
  let c0_i32_332 : BitVec 32 := 0#32
  let v836 : BitVec 1 := Scalar.cmpi .sgt c5_i32_329 c0_i32_332
  let v837 : BitVec 32 := Scalar.extui v836
  let c0_i32_333 : BitVec 32 := 0#32
  let v838 : BitVec 1 := Scalar.cmpi .slt c5_i32_329 c0_i32_333
  let v839 : BitVec 32 := Scalar.extui v838
  let v840 : BitVec 32 := Scalar.subi v837 v839
  let v841 : BitVec 1 := Scalar.cmpi .ne v835 v840
  let v842 : BitVec 32 := Scalar.remsi v544 c5_i32_329
  let c0_i32_334 : BitVec 32 := 0#32
  let v843 : BitVec 1 := Scalar.cmpi .ne v842 c0_i32_334
  let v844 : BitVec 1 := Scalar.andi v841 v843
  let v830 : BitVec 32 := Scalar.divsi v544 c5_i32_329
  let c1_i32_335 : BitVec 32 := 1#32
  let v845 : BitVec 32 := Scalar.subi v830 c1_i32_335
  let v846 : BitVec 32 := Scalar.select v844 v845 v830
  let c5_i32_336 : BitVec 32 := 5#32
  let c0_i32_337 : BitVec 32 := 0#32
  let v847 : BitVec 1 := Scalar.cmpi .eq c5_i32_336 c0_i32_337
  let c1_i32_338 : BitVec 32 := 1#32
  let v848 : BitVec 32 := Scalar.select v847 c1_i32_338 c5_i32_336
  let v849 : BitVec 32 := Scalar.remsi v544 v848
  let c0_i32_340 : BitVec 32 := 0#32
  let v851 : BitVec 1 := Scalar.cmpi .slt v849 c0_i32_340
  let c0_i32_341 : BitVec 32 := 0#32
  let v852 : BitVec 1 := Scalar.cmpi .slt v848 c0_i32_341
  let v853 : BitVec 1 := Scalar.xori v851 v852
  let c0_i32_339 : BitVec 32 := 0#32
  let v850 : BitVec 1 := Scalar.cmpi .ne v849 c0_i32_339
  let v854 : BitVec 1 := Scalar.andi v853 v850
  let v855 : BitVec 32 := Scalar.addi v849 v848
  let v856 : BitVec 32 := Scalar.select v854 v855 v849
  let c200_i32_342 : BitVec 32 := 200#32
  let v857 : BitVec 32 := Scalar.muli v856 c200_i32_342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v846.toNat, v857.toNat, v2.toNat]
def k0_off24 (i : grid0.Coords) : Fin 3 → Nat :=
  let c25_i32 : BitVec 32 := 25#32
  let c600_i32 : BitVec 32 := 600#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![25, 600, v2.toNat]
def k0_off25 (i : grid0.Coords) : Fin 3 → Nat :=
  let c25_i32_96 : BitVec 32 := 25#32
  let c800_i32 : BitVec 32 := 800#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![25, 800, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x26 : Shape := ⟨2, ![4096, 26]⟩
abbrev S4096x26x1 : Shape := ⟨3, ![4096, 26, 1]⟩
abbrev S1x1x1000 : Shape := ⟨3, ![1, 1, 1000]⟩
abbrev S4096x26x1000 : Shape := ⟨3, ![4096, 26, 1000]⟩

abbrev nBuf : Space → Nat
  | .hbm => 7
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S1x1x1000, .i32⟩
  | .hbm, ⟨3, _⟩ => ⟨S4096x26x1000, .i32⟩
  | .hbm, ⟨4, _⟩ => ⟨S4096x26x1000, .i32⟩
  | .hbm, ⟨5, _⟩ => ⟨S4096x26x1000, .i1⟩
  | .hbm, ⟨6, _⟩ => ⟨S4096x26x1000, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.Program.lean ====
/-
  The kernel's body, regrouped. The printed body is cut into windows at fixed statement counts, so one
  masked scatter of sixteen lanes is often split between two windows. Here the same sequence of memory
  operations is written with names: `group` is one scatter of sixteen lanes, `scatter` is the eight of
  them that cover a block's 128 columns, `zeroRow` clears one row of a block, `pairBody` is one trip of
  the main loop and `tileBody` is the whole task. `cc0__body_eq` says that this is the printed body.
-/
module

public import proofs.«01_k».proof.Defs
public import proofs.«01_k».proof.Proof.Gen.KernelIdeal
public import Idealize.ShloMosaic.Lib.SparseCore.Ops

@[expose] public section

noncomputable section

namespace Cert.Proof.OneHot

open Cert.KernelIdeal Cert.KernelIdeal.Gen
open Idealize.ShloMosaic Idealize.SL.Sem

variable {F : FTy → Type} [FloatOps F]

/-! ## The words of one scatter -/

/-- The lane numbers `0 … 15`. -/
def lanes : IVec S16 32 := iota .scVector S16 32 [0] iota_S16_d0_w32_scVector

/-- The columns one group of sixteen lanes addresses, from its first column. -/
def colsOf (g : BitVec 32) : IVec S16 32 := addi (broadcast S16 g) lanes

/-- An index less the block's first class. -/
def relOf (c0 : BitVec 32) (v : IVec S16 32) : IVec S16 32 := subi v (broadcast S16 c0)

/-- Whether the index falls into the block's 200 classes. -/
def inBlock (c0 : BitVec 32) (v : IVec S16 32) : IVec S16 1 :=
  andi (cmpi .sge (relOf c0 v) (broadcast S16 0#32)) (cmpi .slt (relOf c0 v) (broadcast S16 200#32))

/-- The row a lane writes: its index less the block's first class, or row 0 where it falls outside. -/
def rowOf (c0 : BitVec 32) (v : IVec S16 32) : IVec S16 32 :=
  select (inBlock c0 v) (relOf c0 v) (broadcast S16 0#32)

/-- A step's row of the output, `w / 5`, by the printed floor division. -/
def stepRow (w : BitVec 32) : BitVec 32 :=
  Scalar.select
    (Scalar.andi
      (Scalar.cmpi .ne (Scalar.subi (Scalar.extui (Scalar.cmpi .sgt w 0#32) : BitVec 32) (Scalar.extui (Scalar.cmpi .slt w 0#32)))
        (Scalar.subi (Scalar.extui (Scalar.cmpi .sgt 5#32 0#32) : BitVec 32) (Scalar.extui (Scalar.cmpi .slt 5#32 0#32))))
      (Scalar.cmpi .ne (Scalar.remsi w 5#32) 0#32))
    (Scalar.subi (Scalar.divsi w 5#32) 1#32) (Scalar.divsi w 5#32)

/-- A step's first class, `(w % 5) * 200`, by the printed floor remainder. -/
def stepClass (w : BitVec 32) : BitVec 32 :=
  let five := Scalar.select (Scalar.cmpi .eq 5#32 0#32) 1#32 5#32
  let r := Scalar.remsi w five
  Scalar.muli
    (Scalar.select (Scalar.andi (Scalar.xori (Scalar.cmpi .slt r 0#32) (Scalar.cmpi .slt five 0#32)) (Scalar.cmpi .ne r 0#32))
      (Scalar.addi r five) r) 200#32

/-! ## The operations -/

/-- A program of one task. -/
abbrev Task (F : FTy → Type) (tc : Fin τ.nSC) (ts : Fin τ.nSub) : Type 1 := Prog (TpuEff nD τ sig (Elt F) Λ₀ (.scVector tc ts)) PUnit

section
variable {tc : Fin τ.nSC} {ts : Fin τ.nSub}

/-- One scatter of sixteen lanes: the columns' indices are fetched from row `r` of the index block, and `val` is stored
    at the rows of those that fall into the block. -/
def group (arg4 : Memref sig .scVector .vmem S26x128 .i32) (buf : Memref sig .scVector .vmem S200x128 .f32)
    (r c0 g : BitVec 32) (val : FVec F S16 .f32) : Task F tc ts := do
  have h1 : k0_chk33 (broadcast S16 r) (colsOf g) :=
    (← Prog.lift (TpuEff.assume (k0_chk33 (broadcast S16 r) (colsOf g)) (k0_chk33.dec _ _))).down
  let v : Vec F S16 .i32 ← SparseCore.vectorLoadIdx arg4 ![broadcast S16 r, colsOf g] (k0_idx33_inb _ _ h1) (View.loads_vmem h_S26x128)
  have h2 : k0_chk34 (colsOf g) (rowOf c0 v) :=
    (← Prog.lift (TpuEff.assume (k0_chk34 (colsOf g) (rowOf c0 v)) (k0_chk34.dec _ _))).down
  SparseCore.vectorStoreIdx buf ![rowOf c0 v, colsOf g] val (inBlock c0 v) false (k0_idx34_inb _ _ h2) (View.stores_vmem_bits_univ h_S200x128 rfl)

/-- The eight groups of a block. -/
def scatter (arg4 : Memref sig .scVector .vmem S26x128 .i32) (buf : Memref sig .scVector .vmem S200x128 .f32)
    (r c0 : BitVec 32) (val : FVec F S16 .f32) : Task F tc ts := do
  group arg4 buf r c0 0#32 val
  group arg4 buf r c0 16#32 val
  group arg4 buf r c0 32#32 val
  group arg4 buf r c0 48#32 val
  group arg4 buf r c0 64#32 val
  group arg4 buf r c0 80#32 val
  group arg4 buf r c0 96#32 val
  group arg4 buf r c0 112#32 val

/-- Sixteen zeros stored at an offset of the block (the printed text loads them first). -/
def zeroChunk (buf : Memref sig .scVector .vmem S200x128 .f32) (off : Fin 2 → Nat) (h : ∀ a, off a + S1x16.size a ≤ S200x128.size a)
    (val : FVec F S16 .f32) : Task F tc ts := do
  let _ : Vec F S1x16 .f32 ← Prog.lift (.load buf (Rect.unit (s := S200x128) off S1x16.size h).toLoadRect (View.loadsAt_vmem h_S1x16))
  Prog.lift (.store buf (Rect.unit (s := S200x128) off S1x16.size h) (shapeCast S1x16 val shapeCasts_S16_S1x16) Finset.univ (View.stores_vmem_bits_univ h_S1x16 rfl) (.inl rfl))

/-- One row of a block cleared. -/
def zeroRow (buf : Memref sig .scVector .vmem S200x128 .f32) (val : FVec F S16 .f32) (k : Fin k0_t1_loop.trips) : Task F tc ts := do
  zeroChunk buf (k0_off2 k) (k0_off2_inb k) val
  zeroChunk buf (k0_off3 k) (k0_off3_inb k) val
  zeroChunk buf (k0_off4 k) (k0_off4_inb k) val
  zeroChunk buf (k0_off5 k) (k0_off5_inb k) val
  zeroChunk buf (k0_off6 k) (k0_off6_inb k) val
  zeroChunk buf (k0_off7 k) (k0_off7_inb k) val
  zeroChunk buf (k0_off8 k) (k0_off8_inb k) val
  zeroChunk buf (k0_off9 k) (k0_off9_inb k) val

end

/-- The 200 × 128 window of the output at an offset. -/
abbrev window (arg3 : Memref sig .scVector .hbm S26x1000x4096 .f32) (off : Fin 3 → Nat)
    (h : ∀ a, off a + S1x200x128.size a ≤ S26x1000x4096.size a) : Memref sig .scVector .hbm S200x128 .f32 :=
  (arg3.slice (Rect.unit (s := S26x1000x4096) off S1x200x128.size h) (fun _ => rfl)).squeeze S200x128 squeezes_S1x200x128_S200x128

/-- The columns of the indices a task works on. -/
abbrev idxWindow (arg2 : Memref sig .scVector .hbm S26x4096 .i32) (i : grid0.Coords) : Memref sig .scVector .hbm S26x128 .i32 :=
  arg2.slice (Rect.unit (s := S26x4096) (k0_off1 i) S26x128.size (k0_off1_inb i)) (fun _ => rfl)

abbrev zeros16 : FVec F S16 .f32 := broadcast S16 (Scalar.ofBits .f32 0x00000000#32)
abbrev ones16 : FVec F S16 .f32 := broadcast S16 (Scalar.ofBits .f32 0x3F800000#32)

/-- The pair number of a trip. -/
abbrev pairNo (k : Fin k0_t3_loop.trips) : BitVec 32 := Scf.iv 1#32 1#32 k
/-- The even step of a pair, and the odd one. -/
abbrev evenStep (k : Fin k0_t3_loop.trips) : BitVec 32 := Scalar.addi (Scalar.muli (pairNo k) 2#32) 0#32
abbrev oddStep (k : Fin k0_t3_loop.trips) : BitVec 32 := Scalar.addi (Scalar.muli (pairNo k) 2#32) 1#32

section
variable (i : grid0.Coords) (arg2 : Memref sig .scVector .hbm S26x4096 .i32) (harg2 : arg2.IsWhole)
  (arg3 : Memref sig .scVector .hbm S26x1000x4096 .f32) (harg3 : arg3.IsWhole)
  (arg4 : Memref sig .scVector .vmem S26x128 .i32) (harg4 : arg4.IsWhole)
  (arg5 : Memref sig .scVector .vmem S200x128 .f32) (harg5 : arg5.IsWhole)
  (arg6 : Memref sig .scVector .vmem S200x128 .f32) (harg6 : arg6.IsWhole)
  (arg7 arg8 v224_r0 : DmaSems sig S_)

/-- One trip of the main loop: per buffer, wait for its last block, clear that block's ones, set the next block's and
    send it off. -/
def pairBody (k : Fin k0_t3_loop.trips) :
    Prog (TpuEff nD τ sig (Elt F) Λ₀ (.scVector ((i 0).castLE hcore0) ((i 1).castLE hsub0))) (BitVec 32) := do
  Prog.lift (.waitDma2 arg7.sem arg5 (window arg3 (k0_off20 i k) (k0_off20_inb i k)) harg5.wordExact ((View.wordExact_bits rfl).reshape _ _))
  scatter arg4 arg5 (stepRow (Scalar.subi (evenStep k) 2#32)) (stepClass (Scalar.subi (evenStep k) 2#32)) zeros16
  scatter arg4 arg5 (stepRow (evenStep k)) (stepClass (evenStep k)) ones16
  Prog.lift (.enqueueDma arg5 (.here (window arg3 (k0_off21 i k) (k0_off21_inb i k))) (.dma arg7.sem) harg5.wordExact ((View.wordExact_bits rfl).reshape _ _) ⟨Or.inl rfl, trivial⟩)
  Prog.lift (.waitDma2 arg8.sem arg6 (window arg3 (k0_off22 i k) (k0_off22_inb i k)) harg6.wordExact ((View.wordExact_bits rfl).reshape _ _))
  scatter arg4 arg6 (stepRow (Scalar.subi (oddStep k) 2#32)) (stepClass (Scalar.subi (oddStep k) 2#32)) zeros16
  scatter arg4 arg6 (stepRow (oddStep k)) (stepClass (oddStep k)) ones16
  Prog.lift (.enqueueDma arg6 (.here (window arg3 (k0_off23 i k) (k0_off23_inb i k))) (.dma arg8.sem) harg6.wordExact ((View.wordExact_bits rfl).reshape _ _) ⟨Or.inl rfl, trivial⟩)
  pure 0#32

/-- The task: fetch the indices, clear the two buffers and send off their first blocks, the loop, the last two waits. -/
def tileBody : Prog (TpuEff nD τ sig (Elt F) Λ₀ (.scVector ((i 0).castLE hcore0) ((i 1).castLE hsub0))) PUnit := do
  Prog.lift (.enqueueDma (idxWindow arg2 i) (.here arg4) (.dma v224_r0.sem) (View.wordExact_bits rfl) harg4.wordExact ⟨Or.inl rfl, trivial⟩)
  Prog.lift (.waitDma2 v224_r0.sem (idxWindow arg2 i) arg4 (View.wordExact_bits rfl) harg4.wordExact)
  let _ ← Scf.Loop.for k0_t1_loop k0_t1_ok 0#32 fun k _ => do zeroRow arg5 zeros16 k; pure 0#32
  scatter arg4 arg5 0#32 0#32 ones16
  Prog.lift (.enqueueDma arg5 (.here (window arg3 (k0_off10 i) (k0_off10_inb i))) (.dma arg7.sem) harg5.wordExact ((View.wordExact_bits rfl).reshape _ _) ⟨Or.inl rfl, trivial⟩)
  let _ ← Scf.Loop.for k0_t2_loop k0_t2_ok 0#32 fun k _ => do zeroRow arg6 zeros16 k; pure 0#32
  scatter arg4 arg6 0#32 200#32 ones16
  Prog.lift (.enqueueDma arg6 (.here (window arg3 (k0_off19 i) (k0_off19_inb i))) (.dma arg8.sem) harg6.wordExact ((View.wordExact_bits rfl).reshape _ _) ⟨Or.inl rfl, trivial⟩)
  let _ ← Scf.Loop.for k0_t3_loop k0_t3_ok 0#32 fun k _ => pairBody i arg3 arg4 arg5 harg5 arg6 harg6 arg7 arg8 k
  Prog.lift (.waitDma2 arg7.sem arg5 (window arg3 (k0_off24 i) (k0_off24_inb i)) harg5.wordExact ((View.wordExact_bits rfl).reshape _ _))
  Prog.lift (.waitDma2 arg8.sem arg6 (window arg3 (k0_off25 i) (k0_off25_inb i)) harg6.wordExact ((View.wordExact_bits rfl).reshape _ _))
  pure ⟨⟩

set_option maxHeartbeats 40000000 in
set_option maxRecDepth 100000 in
/-- The regrouped body is the printed one: a window that holds a loop is bound after it, so the two differ by the
    associativity of sequencing there and are otherwise the same operations. -/
theorem cc0__body_eq :
    cc0__body (F := F) i arg2 harg2 arg3 harg3 arg4 harg4 arg5 harg5 arg6 harg6 arg7 arg8 v224_r0
      = tileBody i arg2 arg3 arg4 harg4 arg5 harg5 arg6 harg6 arg7 arg8 v224_r0 := by
  unfold cc0__body k0_part17 k0_part20 tileBody
  simp only [bind_assoc]
  rfl

end

end Cert.Proof.OneHot

end
-- ==== Proof.Blocks.lean ====
/-
  What one scatter does to a block of 200 classes by 128 columns. A group of sixteen lanes writes one value at the
  row each lane's index names (relative to the block's first class) where that row exists; eight groups cover the
  128 columns. `put t r c n w f` is the contents after the first `n` columns of row `r` of the indices `t` have been
  written as `w` over `f`, for the block whose first class is `c`.
-/
module

public import proofs.«01_k».proof.Proof.Program

@[expose] public section

noncomputable section

namespace Cert.Proof.OneHot

open Cert.KernelIdeal Cert.KernelIdeal.Gen
open Idealize.ShloMosaic Idealize.SL.Sem

variable {F : FTy → Type} [FloatOps F]

/-! ## A store of one value -/

/-- A fold that overwrites with one value wherever some entry of the list says so. -/
theorem foldl_overwrite {ι α β : Type} (c : ι → Prop) [DecidablePred c] (hit : ι → α → Prop) [∀ k j, Decidable (hit k j)]
    (w : β) (l : List ι) (f : α → β) (j : α) :
    l.foldl (fun g k => if c k then fun j => if hit k j then w else g j else g) f j
      = @ite _ (∃ k ∈ l, c k ∧ hit k j) (Classical.propDecidable _) w (f j) := by
  classical
  induction l generalizing f with
  | nil => simp
  | cons a l ih =>
    rw [List.foldl_cons, ih]
    by_cases h : ∃ k ∈ l, c k ∧ hit k j
    · rw [if_pos h, if_pos]
      obtain ⟨k, hk, hh⟩ := h
      exact ⟨k, List.mem_cons_of_mem _ hk, hh⟩
    · rw [if_neg h]
      by_cases hc : c a
      · rw [if_pos hc]
        by_cases hh : hit a j
        · rw [if_pos hh, if_pos]
          exact ⟨a, List.mem_cons_self, hc, hh⟩
        · rw [if_neg hh, if_neg]
          rintro ⟨k, hk, h1, h2⟩
          rcases List.mem_cons.1 hk with rfl | hk
          · exact hh h2
          · exact h ⟨k, hk, h1, h2⟩
      · rw [if_neg hc, if_neg]
        rintro ⟨k, hk, h1, h2⟩
        rcases List.mem_cons.1 hk with rfl | hk
        · exact hc h1
        · exact h ⟨k, hk, h1, h2⟩

/-- An indexed store of one value under a mask: the value at every element a set lane names, the old contents
    elsewhere. -/
theorem storeIdx_one {s : Shape} {d : Fin 1 → Nat} {e : EltTy} (f : Vec F s e) (idxs : Fin s.rank → IVec ⟨1, d⟩ 32) (w : Elt F e)
    (mask : IVec ⟨1, d⟩ 1) (h : ∀ a x, (idxs a x).toNat < s.size a) (j : s.Idx) :
    storeIdx f idxs (fun _ => w) mask false h j
      = @ite _ (∃ k : Fin (d 0), mask (Shape.ofLane k) = 1 ∧ ∀ a, (j a).val = (idxs a (Shape.ofLane k)).toNat)
          (Classical.propDecidable _) w (f j) := by
  unfold storeIdx
  simp only [Bool.false_eq_true, if_false, idxAt]
  have := foldl_overwrite (fun k : Fin (d 0) => mask (Shape.ofLane k) = 1)
    (fun k (j : s.Idx) => ∀ a, (j a).val = (idxs a (Shape.ofLane k)).toNat) w (List.finRange (d 0)) f j
  simp only [List.mem_finRange, true_and] at this
  convert this

/-! ## The words of a lane -/

/-- Lane `k` of a group of sixteen. -/
abbrev lane (k : Fin 16) : S16.Idx := Shape.ofLane (d := ![16]) k

theorem exists_lane (x : S16.Idx) : ∃ k : Fin 16, x = lane k :=
  ⟨x 0, funext fun a => by have := Fin.eq_zero a; subst this; rfl⟩

theorem colsOf_lane (g : Nat) (hg : g + 16 ≤ 128) (k : Fin 16) : (colsOf (BitVec.ofNat 32 g) (lane k)).toNat = g + k.val := by
  have hk := k.isLt
  show (BitVec.ofNat 32 g + BitVec.ofNat 32 (0 * 16 + k.val)).toNat = _
  rw [BitVec.toNat_add, BitVec.toNat_ofNat, BitVec.toNat_ofNat]
  omega

theorem word_inBlock (r : BitVec 32) :
    IntOp.andi (IntOp.cmpi .sge r 0#32) (IntOp.cmpi .slt r 200#32) = 1 ↔ r.toNat < 200 := by
  simp only [IntOp.andi, IntOp.cmpi]
  rw [show (1 : BitVec 1) = BitVec.ofBool true from rfl, BitVec.ofBool_and_ofBool]
  have h1 : (0#32).sle r = decide (0 ≤ r.toInt) := by rw [BitVec.sle_eq_decide]; rfl
  have h2 : r.slt 200#32 = decide (r.toInt < 200) := by rw [BitVec.slt_eq_decide]; rfl
  rw [h1, h2]
  have h3 : ∀ b : Bool, BitVec.ofBool b = BitVec.ofBool true ↔ b = true := by decide
  rw [h3, Bool.and_eq_true, decide_eq_true_iff, decide_eq_true_iff, BitVec.toInt_eq_toNat_cond]
  have := r.isLt
  split <;> omega

theorem inBlock_iff (c0 : BitVec 32) (v : IVec S16 32) (x : S16.Idx) : inBlock c0 v x = 1 ↔ (v x - c0).toNat < 200 :=
  word_inBlock _

theorem rowOf_of_mem (c0 : BitVec 32) (v : IVec S16 32) (x : S16.Idx) (h : inBlock c0 v x = 1) : rowOf c0 v x = v x - c0 :=
  if_pos h

/-- A lane's row is always one of the block's. -/
theorem rowOf_lt (c0 : BitVec 32) (v : IVec S16 32) (x : S16.Idx) : (rowOf c0 v x).toNat < 200 := by
  by_cases h : inBlock c0 v x = 1
  · rw [rowOf_of_mem c0 v x h]; exact (inBlock_iff c0 v x).1 h
  · have : rowOf c0 v x = 0#32 := if_neg h
    rw [this]; decide

/-! ## The contents of a block -/

/-- The index that row `r` of the indices holds for a column. -/
def wordAt (t : S26x128.Idx → BitVec 32) (r : Fin 26) (b : Fin 128) : BitVec 32 := t (Shape.pair (d := ![26, 128]) r b)

/-- Whether an element of the block is the one its column's index names. -/
def Names (t : S26x128.Idx → BitVec 32) (r : Fin 26) (c : Nat) (j : S200x128.Idx) : Prop :=
  wordAt t r (j 1) = BitVec.ofNat 32 (c + (j 0).val)

instance (t : S26x128.Idx → BitVec 32) (r : Fin 26) (c : Nat) (j : S200x128.Idx) : Decidable (Names t r c j) :=
  inferInstanceAs (Decidable (_ = _))

/-- `f` with `w` at the named element of each of the first `n` columns. -/
def put {α : Type} (t : S26x128.Idx → BitVec 32) (r : Fin 26) (c n : Nat) (w : α) (f : S200x128.Idx → α) : S200x128.Idx → α :=
  fun j => if (j 1).val < n ∧ Names t r c j then w else f j

theorem put_zero {α : Type} (t : S26x128.Idx → BitVec 32) (r : Fin 26) (c : Nat) (w : α) (f : S200x128.Idx → α) :
    put t r c 0 w f = f := by
  funext j
  exact if_neg fun h => Nat.not_lt_zero _ h.1

/-- Putting the old value back. -/
theorem put_put {α : Type} (t : S26x128.Idx → BitVec 32) (r : Fin 26) (c : Nat) (w z : α) :
    put t r c 128 z (put t r c 128 w (fun _ => z)) = fun _ => z := by
  funext j
  unfold put
  by_cases h : (j 1).val < 128 ∧ Names t r c j
  · rw [if_pos h]
  · rw [if_neg h, if_neg h]

theorem sub_toNat_eq_iff (v : BitVec 32) (c n : Nat) (hn : n < 2 ^ 32) :
    (v - BitVec.ofNat 32 c).toNat = n ↔ v = BitVec.ofNat 32 (c + n) := by
  rw [BitVec.ofNat_add, BitVec.add_comm, ← BitVec.sub_eq_iff_eq_add]
  constructor
  · intro h; rw [← h, BitVec.ofNat_toNat, BitVec.setWidth_eq]
  · intro h; rw [h, BitVec.toNat_ofNat, Nat.mod_eq_of_lt hn]

/-- The indices a group fetches. -/
def fetch (t : S26x128.Idx → BitVec 32) (r g : BitVec 32) (h : k0_chk33 (broadcast S16 r) (colsOf g)) : IVec S16 32 :=
  loadIdx (F := F) (e := .i32) t ![broadcast S16 r, colsOf g] (k0_idx33_inb _ _ h)

theorem chk_fetch (r g : Nat) (hr : r < 26) (hg : g + 16 ≤ 128) :
    k0_chk33 (broadcast S16 (BitVec.ofNat 32 r)) (colsOf (BitVec.ofNat 32 g)) := by
  intro a x
  obtain ⟨k, rfl⟩ := exists_lane x
  have hk := k.isLt
  match a with
  | 0 => show (BitVec.ofNat 32 r).toNat < 26; rw [BitVec.toNat_ofNat]; omega
  | 1 => show (colsOf _ (lane k)).toNat < 128; rw [colsOf_lane g hg]; omega

theorem chk_store (v : IVec S16 32) (c0 : BitVec 32) (g : Nat) (hg : g + 16 ≤ 128) : k0_chk34 (colsOf (BitVec.ofNat 32 g)) (rowOf c0 v) := by
  intro a x
  match a with
  | 0 => exact rowOf_lt c0 v x
  | 1 =>
    obtain ⟨k, rfl⟩ := exists_lane x
    have hk := k.isLt
    show (colsOf _ (lane k)).toNat < 128; rw [colsOf_lane g hg]; omega

theorem fetch_lane (t : S26x128.Idx → BitVec 32) (r : Fin 26) (g : Nat) (hg : g + 16 ≤ 128)
    (h : k0_chk33 (broadcast S16 (BitVec.ofNat 32 r.val)) (colsOf (BitVec.ofNat 32 g))) (k : Fin 16) (b : Fin 128) (hb : b.val = g + k.val) :
    fetch (F := F) t (BitVec.ofNat 32 r.val) (BitVec.ofNat 32 g) h (lane k) = wordAt t r b := by
  unfold fetch loadIdx wordAt
  congr 1
  funext a
  apply Fin.ext
  have hr := r.isLt
  match a with
  | 0 => show (BitVec.ofNat 32 r.val).toNat = r.val; rw [BitVec.toNat_ofNat]; omega
  | 1 => show (colsOf _ (lane k)).toNat = b.val; rw [colsOf_lane g hg, hb]

/-- One group of sixteen lanes: the contents with the columns before `g` written become those with the columns before
    `g + 16` written. -/
theorem put_group (t : S26x128.Idx → BitVec 32) (r : Fin 26) (c g : Nat) (hg : g + 16 ≤ 128) (w : F .f32) (f : Vec F S200x128 .f32)
    (h1 : k0_chk33 (broadcast S16 (BitVec.ofNat 32 r.val)) (colsOf (BitVec.ofNat 32 g)))
    (h2 : ∀ a x, ((![rowOf (BitVec.ofNat 32 c) (fetch (F := F) t (BitVec.ofNat 32 r.val) (BitVec.ofNat 32 g) h1), colsOf (BitVec.ofNat 32 g)] : Fin 2 → IVec S16 32) a x).toNat < S200x128.size a) :
    storeIdx (F := F) (e := .f32) (s := S200x128) (d := ![16]) (put t r c g w f)
        ![rowOf (BitVec.ofNat 32 c) (fetch (F := F) t (BitVec.ofNat 32 r.val) (BitVec.ofNat 32 g) h1), colsOf (BitVec.ofNat 32 g)]
        (broadcast S16 w) (inBlock (BitVec.ofNat 32 c) (fetch (F := F) t (BitVec.ofNat 32 r.val) (BitVec.ofNat 32 g) h1)) false h2
      = put t r c (g + 16) w f := by
  classical
  funext j
  have hj0 : (j 0).val < 200 := (j 0).isLt
  have hj1 : (j 1).val < 128 := (j 1).isLt
  refine (storeIdx_one (F := F) (e := .f32) _ _ w _ h2 j).trans ?_
  have key : (∃ k : Fin 16, inBlock (BitVec.ofNat 32 c) (fetch (F := F) t (BitVec.ofNat 32 r.val) (BitVec.ofNat 32 g) h1) (lane k) = 1
        ∧ ∀ a, (j a).val = ((![rowOf (BitVec.ofNat 32 c) (fetch (F := F) t (BitVec.ofNat 32 r.val) (BitVec.ofNat 32 g) h1), colsOf (BitVec.ofNat 32 g)] : Fin 2 → IVec S16 32) a (lane k)).toNat)
      ↔ (g ≤ (j 1).val ∧ (j 1).val < g + 16) ∧ Names t r c j := by
    constructor
    · rintro ⟨k, hk, ha⟩
      have h0 : (j 0).val = (rowOf _ _ (lane k)).toNat := ha 0
      have h1' : (j 1).val = (colsOf _ (lane k)).toNat := ha 1
      have hkl := k.isLt
      rw [colsOf_lane g hg] at h1'
      rw [rowOf_of_mem _ _ _ hk, fetch_lane t r g hg h1 k (j 1) h1'] at h0
      exact ⟨by omega, (sub_toNat_eq_iff _ _ _ (by omega)).1 h0.symm⟩
    · rintro ⟨⟨hlo, hhi⟩, hn⟩
      have hf := fetch_lane (F := F) t r g hg h1 ⟨(j 1).val - g, by omega⟩ (j 1) (by show _ = g + ((j 1).val - g); omega)
      have hv : (wordAt t r (j 1) - BitVec.ofNat 32 c).toNat = (j 0).val := (sub_toNat_eq_iff _ _ _ (by omega)).2 hn
      have hin : inBlock (BitVec.ofNat 32 c) (fetch (F := F) t (BitVec.ofNat 32 r.val) (BitVec.ofNat 32 g) h1) (lane ⟨(j 1).val - g, by omega⟩) = 1 := by
        rw [inBlock_iff, hf, hv]; exact hj0
      refine ⟨⟨(j 1).val - g, by omega⟩, hin, fun a => ?_⟩
      match a with
      | 0 =>
        show (j 0).val = (rowOf _ _ _).toNat
        rw [rowOf_of_mem _ _ _ hin, hf, hv]
      | 1 =>
        show (j 1).val = (colsOf _ _).toNat
        rw [colsOf_lane g hg]
        show (j 1).val = g + ((j 1).val - g)
        omega
  unfold put
  by_cases hn : Names t r c j
  · by_cases hlo : (j 1).val < g
    · refine (if_neg fun h => by have := (key.1 h).1; omega).trans ?_
      rw [if_pos ⟨hlo, hn⟩, if_pos ⟨by omega, hn⟩]
    · by_cases hhi : (j 1).val < g + 16
      · refine (if_pos (key.2 ⟨⟨by omega, hhi⟩, hn⟩)).trans ?_
        rw [if_pos ⟨hhi, hn⟩]
      · refine (if_neg fun h => by have := (key.1 h).1; omega).trans ?_
        rw [if_neg (fun h => hlo h.1), if_neg (fun h => hhi h.1)]
  · refine (if_neg fun h => hn (key.1 h).2).trans ?_
    rw [if_neg (fun h => hn h.2), if_neg (fun h => hn h.2)]

/-! ## The steps -/

theorem trips3 : k0_t3_loop.trips = 64 := by decide

set_option maxRecDepth 100000 in
/-- The row and the first class of the four blocks a trip touches. -/
theorem step_words : ∀ k : Fin k0_t3_loop.trips,
    (stepRow (Scalar.subi (evenStep k) 2#32) = BitVec.ofNat 32 ((2 * k.val) / 5) ∧ stepClass (Scalar.subi (evenStep k) 2#32) = BitVec.ofNat 32 ((2 * k.val) % 5 * 200))
    ∧ (stepRow (evenStep k) = BitVec.ofNat 32 ((2 * k.val + 2) / 5) ∧ stepClass (evenStep k) = BitVec.ofNat 32 ((2 * k.val + 2) % 5 * 200))
    ∧ (stepRow (Scalar.subi (oddStep k) 2#32) = BitVec.ofNat 32 ((2 * k.val + 1) / 5) ∧ stepClass (Scalar.subi (oddStep k) 2#32) = BitVec.ofNat 32 ((2 * k.val + 1) % 5 * 200))
    ∧ (stepRow (oddStep k) = BitVec.ofNat 32 ((2 * k.val + 3) / 5) ∧ stepClass (oddStep k) = BitVec.ofNat 32 ((2 * k.val + 3) % 5 * 200)) := by
  decide +kernel

/-- The offset of a step's block of the output, on the task `i`. -/
def offOf (i : grid0.Coords) (st : Nat) : Fin 3 → Nat := ![st / 5, st % 5 * 200, 256 * (i 1).val + 128 * (i 0).val]

set_option maxRecDepth 100000 in
set_option maxHeartbeats 4000000 in
theorem off20_eq : ∀ (i : grid0.Coords) (k : Fin k0_t3_loop.trips), k0_off20 i k = offOf i (2 * k.val) := by
  decide +kernel

set_option maxRecDepth 100000 in
set_option maxHeartbeats 4000000 in
theorem off21_eq : ∀ (i : grid0.Coords) (k : Fin k0_t3_loop.trips), k0_off21 i k = offOf i (2 * k.val + 2) := by
  decide +kernel

set_option maxRecDepth 100000 in
set_option maxHeartbeats 4000000 in
theorem off22_eq : ∀ (i : grid0.Coords) (k : Fin k0_t3_loop.trips), k0_off22 i k = offOf i (2 * k.val + 1) := by
  decide +kernel

set_option maxRecDepth 100000 in
set_option maxHeartbeats 4000000 in
theorem off23_eq : ∀ (i : grid0.Coords) (k : Fin k0_t3_loop.trips), k0_off23 i k = offOf i (2 * k.val + 3) := by
  decide +kernel

end Cert.Proof.OneHot

end
-- ==== Proof.Steps.lean ====
/-
  Rules for the task's steps on its scratch memory. `Holds thr m h` says that the thread owns the memref's elements
  and that it reads as `h`. Over it: an indexed load, an indexed store, a group of sixteen lanes, a whole scatter, the
  clearing of a row and of a block.
-/
module

public import proofs.«01_k».proof.Proof.Blocks
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.OneHot

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev UH : Type := URounds (GSem nD τ sig) ℕ
/-- The launch's ghost state: the handshakes' rounds beside the transfers' counters. -/
abbrev UU : Type := UH × Counters

local notation "𝕄" => MT nD τ sig (HIx 1) (Elt F) ℕ UU ℕ

abbrev 𝒱₀ : Variants := Variants.none

/-- The thread owns the memref's elements, and it reads as `h`. -/
def Holds (thr : Thread nD τ) {sp : Space} {s : Shape} {e : EltTy} (m : Memref sig thr.2.kind sp s e) (h : s.Idx → Elt F e) : sProp 𝕄 :=
  iprop(∃ g, ⌜m.view.read (Elt F) g = h⌝ ∗ (m.view.loc thr ↦[m.view.set]{fullShare} g))

section
variable {thr : Thread nD τ} {sp : Space} {s : Shape} {e : EltTy}

theorem read_access_all (m : Memref sig thr.2.kind sp s e) (g : Buf (Elt F) (m.view.loc thr)) :
    (m.access (.whole s)).read (Elt F) g = m.view.read (Elt F) g := by
  funext x
  show (m.view.slice (.whole s)).read (Elt F) g x = _
  rw [View.read_apply, View.read_apply, View.emb_slice]
  simp only [Function.Embedding.trans_apply, Rect.emb_whole_apply]

theorem set_access_all (m : Memref sig thr.2.kind sp s e) : (m.access (.whole s)).set = m.view.set := by
  show (m.view.slice (.whole s)).set = _
  rw [View.set_slice, Rect.set_whole]; rfl

theorem read_write_access (m : Memref sig thr.2.kind sp s e) (g : Buf (Elt F) (m.view.loc thr)) (w : s.Idx → Elt F e) :
    m.view.read (Elt F) ((m.access (.whole s)).write (Elt F) g w Finset.univ) = w := by
  rw [← read_access_all (thr := thr)]
  exact View.read_write_univ _ _

variable [FloatOps F] {α : Type} {Q : α → sProp (MT nD τ sig (HIx 1) (Elt F) ℕ UU ℕ)}

/-- An indexed load. -/
theorem wp_gather {t : Shape} {m : Memref sig thr.2.kind .vmem s e} {idxs : Fin s.rank → IVec t 32}
    {hi : ∀ a x, (idxs a x).toNat < s.size a} {hl : m.view.Loads} {k : Vec F t e → Prog (TpuEff nD τ sig (Elt F) Λ₀ thr.2) α}
    {h : s.Idx → Elt F e} :
    (Holds thr m h : sProp 𝕄)
      ⊢ iprop((Holds thr m h -∗ wp frame (wpE (defs₀ (F := F)) 𝒱₀ thr none) Set.univ (k (loadIdx h idxs hi)) Q)
        -∗ wp frame (wpE (defs₀ (F := F)) 𝒱₀ thr none) Set.univ (SparseCore.vectorLoadIdx m idxs hi hl >>= k) Q) := by
  unfold Holds
  iintro ⟨%g, %hg, H⟩ Hk
  iapply (SparseCore.wp_vectorLoadIdx (defs := defs₀ (F := F)) 𝒱₀ thr none Set.univ (base := m) (idxs := idxs) (h := hi) (hl := hl) (k := k)
    (S := m.view.set) (q := fullShare) (f := g) (by rw [set_access_all])) $$ H
  iintro H
  rw [read_access_all, hg]
  iapply Hk
  iexists g
  isplitr
  · ipureintro; exact hg
  iexact H

/-- An indexed store. -/
theorem wp_put {d : Fin 1 → Nat} {m : Memref sig thr.2.kind .vmem s e} {idxs : Fin s.rank → IVec ⟨1, d⟩ 32} {v : Vec F ⟨1, d⟩ e}
    {mask : IVec ⟨1, d⟩ 1} {add : Bool} {hi : ∀ a x, (idxs a x).toNat < s.size a} {hs : (m.access (.whole s)).Stores Finset.univ}
    {k : PUnit → Prog (TpuEff nD τ sig (Elt F) Λ₀ thr.2) α} {h : s.Idx → Elt F e} :
    (Holds thr m h : sProp 𝕄)
      ⊢ iprop((Holds thr m (storeIdx h idxs v mask add hi) -∗ wp frame (wpE (defs₀ (F := F)) 𝒱₀ thr none) Set.univ (k ⟨⟩) Q)
        -∗ wp frame (wpE (defs₀ (F := F)) 𝒱₀ thr none) Set.univ (SparseCore.vectorStoreIdx m idxs v mask add hi hs >>= k) Q) := by
  unfold Holds
  iintro ⟨%g, %hg, H⟩ Hk
  iapply (SparseCore.wp_vectorStoreIdx (defs := defs₀ (F := F)) 𝒱₀ thr none Set.univ (base := m) (idxs := idxs) (v := v) (mask := mask) (add := add)
    (h := hi) (hs := hs) (k := k) (f := g)) $$ [H]
  · rw [set_access_all]; iexact H
  iintro H
  rw [read_access_all, hg, set_access_all]
  iapply Hk
  iexists _
  isplitr
  · ipureintro; exact read_write_access m g _
  iexact H

end

section
variable [FloatOps F] {d : Dev nD} {tc : Fin τ.nSC} {ts : Fin τ.nSub} {α : Type} {Q : α → sProp (MT nD τ sig (HIx 1) (Elt F) ℕ UU ℕ)}
  {k : PUnit → Prog (TpuEff nD τ sig (Elt F) Λ₀ (.scVector tc ts)) α}
  {arg4 : Memref sig .scVector .vmem S26x128 .i32} {buf : Memref sig .scVector .vmem S200x128 .f32}

/-- One group of sixteen lanes writes sixteen more columns. -/
theorem wp_group (t : S26x128.Idx → BitVec 32) (r : Fin 26) (c g : Nat) (hg : g + 16 ≤ 128) (w : F .f32) (f : Vec F S200x128 .f32) :
    (iprop(Holds (V d tc ts) arg4 t ∗ Holds (V d tc ts) buf (put t r c g w f)) : sProp 𝕄)
      ⊢ iprop((iprop(Holds (V d tc ts) arg4 t ∗ Holds (V d tc ts) buf (put t r c (g + 16) w f))
            -∗ wp frame (wpE (defs₀ (F := F)) 𝒱₀ (V d tc ts) none) Set.univ (k ⟨⟩) Q)
        -∗ wp frame (wpE (defs₀ (F := F)) 𝒱₀ (V d tc ts) none) Set.univ
            (group arg4 buf (BitVec.ofNat 32 r.val) (BitVec.ofNat 32 c) (BitVec.ofNat 32 g) (broadcast S16 w) >>= k) Q) := by
  unfold group
  simp only [Prog.lift, bind_assoc, Prog.bind_op, Prog.bind_ret]
  rw [wp_assume_of _ _ _ _ (chk_fetch r.val g r.isLt hg)]
  iintro ⟨Ht, Hb⟩ Hk
  iapply (wp_gather (thr := V d tc ts) (m := arg4)) $$ Ht
  iintro Ht
  rw [wp_assume_of _ _ _ _ (chk_store _ _ g hg)]
  iapply (wp_put (thr := V d tc ts) (m := buf)) $$ Hb
  iintro Hb
  iapply Hk
  isplitl [Ht]; · iexact Ht
  have e := put_group t r c g hg w f (chk_fetch r.val g r.isLt hg) (k0_idx34_inb _ _ (chk_store _ _ g hg))
  rw [← e]
  iexact Hb

/-- The eight groups of a block write its 128 columns. -/
theorem wp_scatter (t : S26x128.Idx → BitVec 32) (r : Fin 26) (c : Nat) (w : F .f32) (f : Vec F S200x128 .f32) :
    (iprop(Holds (V d tc ts) arg4 t ∗ Holds (V d tc ts) buf f) : sProp 𝕄)
      ⊢ iprop((iprop(Holds (V d tc ts) arg4 t ∗ Holds (V d tc ts) buf (put t r c 128 w f))
            -∗ wp frame (wpE (defs₀ (F := F)) 𝒱₀ (V d tc ts) none) Set.univ (k ⟨⟩) Q)
        -∗ wp frame (wpE (defs₀ (F := F)) 𝒱₀ (V d tc ts) none) Set.univ
            (scatter arg4 buf (BitVec.ofNat 32 r.val) (BitVec.ofNat 32 c) (broadcast S16 w) >>= k) Q) := by
  unfold scatter
  simp only [bind_assoc]
  iintro H Hk
  iapply (wp_group t r c 0 (by decide) w f) $$ [H]
  · rw [put_zero]; iexact H
  iintro H
  iapply (wp_group t r c 16 (by decide) w f) $$ H
  iintro H
  iapply (wp_group t r c 32 (by decide) w f) $$ H
  iintro H
  iapply (wp_group t r c 48 (by decide) w f) $$ H
  iintro H
  iapply (wp_group t r c 64 (by decide) w f) $$ H
  iintro H
  iapply (wp_group t r c 80 (by decide) w f) $$ H
  iintro H
  iapply (wp_group t r c 96 (by decide) w f) $$ H
  iintro H
  iapply (wp_group t r c 112 (by decide) w f) $$ H
  iexact Hk

/-! ## Clearing a block -/

/-- The rows before `k`, and the columns before `n` of row `k`, hold `z`. -/
def Cleared (z : F .f32) (k n : Nat) (h : Vec F S200x128 .f32) : Prop :=
  ∀ j : S200x128.Idx, (j 0).val < k ∨ (j 0).val = k ∧ (j 1).val < n → h j = z

theorem cleared_next {z : F .f32} {k : Nat} {h : Vec F S200x128 .f32} (hh : Cleared z k 128 h) : Cleared z (k + 1) 0 h := by
  intro j hj
  have h1 : (j 1).val < 128 := (j 1).isLt
  exact hh j (by omega)

theorem cleared_all {z : F .f32} {h : Vec F S200x128 .f32} (hh : Cleared z 200 0 h) : h = fun _ => z :=
  funext fun j => hh j (Or.inl (j 0).isLt)

/-- The thread owns the block, cleared so far. -/
def HoldsCleared (thr : Thread nD τ) (m : Memref sig thr.2.kind .vmem S200x128 .f32) (z : F .f32) (k n : Nat) : sProp 𝕄 :=
  iprop(∃ h, ⌜Cleared z k n h⌝ ∗ Holds thr m h)

/-- Sixteen more columns of a row cleared. -/
theorem wp_zeroChunk (z : F .f32) (r n : Nat) {off : Fin 2 → Nat} (hoff : off = ![r, n]) (h : ∀ a, off a + S1x16.size a ≤ S200x128.size a) :
    (HoldsCleared (V d tc ts) buf z r n : sProp 𝕄)
      ⊢ iprop((HoldsCleared (V d tc ts) buf z r (n + 16) -∗ wp frame (wpE (defs₀ (F := F)) 𝒱₀ (V d tc ts) none) Set.univ (k ⟨⟩) Q)
        -∗ wp frame (wpE (defs₀ (F := F)) 𝒱₀ (V d tc ts) none) Set.univ (zeroChunk buf off h (broadcast S16 z) >>= k) Q) := by
  unfold zeroChunk HoldsCleared Holds
  simp only [Prog.lift, bind_assoc, Prog.bind_op, Prog.bind_ret]
  iintro ⟨%f, %hf, %g, %hg, H⟩ Hk
  iapply (wp_load_rect (defs := defs₀ (F := F)) 𝒱₀ (V d tc ts) none Set.univ (m := buf) (r := Rect.unit (s := S200x128) off S1x16.size h)
    (S := buf.view.set) (q := fullShare) (f := g) (View.set_slice_subset _ _)) $$ H
  iintro H
  iapply (wp_store (defs := defs₀ (F := F)) 𝒱₀ (V d tc ts) none Set.univ (m := buf) (r := Rect.unit (s := S200x128) off S1x16.size h)
    (Mk := Finset.univ) (S := buf.view.set) (f := g) (View.set_slice_subset _ _)) $$ H
  iintro H
  iapply Hk
  iexists (buf.view.read (Elt F) ((buf.access (Rect.unit (s := S200x128) off S1x16.size h)).write (Elt F) g
    (shapeCast S1x16 (broadcast S16 z) shapeCasts_S16_S1x16) Finset.univ))
  isplitr
  rotate_left
  · iexists _
    isplitr
    rotate_left
    · iexact H
    · ipureintro; rfl
  ipureintro
  intro j hj
  by_cases hm : j ∈ (Finset.univ : Finset (Rect.unit (s := S200x128) off S1x16.size h).shape.Idx).map (Rect.unit (s := S200x128) off S1x16.size h).emb
  · obtain ⟨x, hx, rfl⟩ := Finset.mem_map.1 hm
    exact View.read_slice_write_emb _ _ _ hx
  · refine (View.read_slice_write_of_not_mem _ _ _ _ hm).trans ?_
    rw [hg]
    refine hf j ?_
    by_contra hc
    have h0 : (j 0).val = r := by omega
    have h1 : n ≤ (j 1).val ∧ (j 1).val < n + 16 := by omega
    refine hm (Finset.mem_map.2 ⟨fun a => ⟨(j a).val - off a, ?_⟩, Finset.mem_univ _, ?_⟩)
    · subst hoff
      match a with
      | 0 => show (j 0).val - r < 1; omega
      | 1 => show (j 1).val - n < 16; omega
    · subst hoff
      funext a; apply Fin.ext
      match a with
      | 0 => show r + 1 * ((j 0).val - r) = (j 0).val; omega
      | 1 => show n + 1 * ((j 1).val - n) = (j 1).val; omega

/-- A row cleared. -/
theorem wp_zeroRow (z : F .f32) (i : Fin k0_t1_loop.trips) :
    (HoldsCleared (V d tc ts) buf z i.val 0 : sProp 𝕄)
      ⊢ iprop((HoldsCleared (V d tc ts) buf z (i.val + 1) 0 -∗ wp frame (wpE (defs₀ (F := F)) 𝒱₀ (V d tc ts) none) Set.univ (k ⟨⟩) Q)
        -∗ wp frame (wpE (defs₀ (F := F)) 𝒱₀ (V d tc ts) none) Set.univ (zeroRow buf (broadcast S16 z) i >>= k) Q) := by
  unfold zeroRow
  simp only [bind_assoc]
  iintro H Hk
  iapply (wp_zeroChunk z i.val 0 (k0_off2_eq i) (k0_off2_inb i)) $$ H
  iintro H
  iapply (wp_zeroChunk z i.val 16 (k0_off3_eq i) (k0_off3_inb i)) $$ H
  iintro H
  iapply (wp_zeroChunk z i.val 32 (k0_off4_eq i) (k0_off4_inb i)) $$ H
  iintro H
  iapply (wp_zeroChunk z i.val 48 (k0_off5_eq i) (k0_off5_inb i)) $$ H
  iintro H
  iapply (wp_zeroChunk z i.val 64 (k0_off6_eq i) (k0_off6_inb i)) $$ H
  iintro H
  iapply (wp_zeroChunk z i.val 80 (k0_off7_eq i) (k0_off7_inb i)) $$ H
  iintro H
  iapply (wp_zeroChunk z i.val 96 (k0_off8_eq i) (k0_off8_inb i)) $$ H
  iintro H
  iapply (wp_zeroChunk z i.val 112 (k0_off9_eq i) (k0_off9_inb i)) $$ H
  iintro H
  iapply Hk
  unfold HoldsCleared
  icases H with ⟨%h, %hh, H⟩
  iexists h
  isplitr
  · ipureintro; exact cleared_next hh
  iexact H

theorem trips1 : k0_t1_loop.trips = 200 := by decide
theorem trips2 : k0_t2_loop.trips = 200 := by decide

/-- A counted loop at the head of a task, by an invariant. -/
theorem wp_loop (l : Scf.Loop 32) (ok : l.OK) (init : BitVec 32)
    (body : Fin l.trips → BitVec 32 → Prog (TpuEff nD τ sig (Elt F) Λ₀ (.scVector tc ts)) (BitVec 32)) (I : Nat → BitVec 32 → sProp 𝕄)
    (hbody : ∀ (i : Fin l.trips) (acc : BitVec 32),
      I i.val acc ⊢ wp frame (wpE (defs₀ (F := F)) 𝒱₀ (V d tc ts) none) Set.univ (body i acc) (I (i.val + 1)))
    {kk : BitVec 32 → Prog (TpuEff nD τ sig (Elt F) Λ₀ (.scVector tc ts)) α} :
    I 0 init
      ⊢ iprop((∀ acc, I l.trips acc -∗ wp frame (wpE (defs₀ (F := F)) 𝒱₀ (V d tc ts) none) Set.univ (kk acc) Q)
        -∗ wp frame (wpE (defs₀ (F := F)) 𝒱₀ (V d tc ts) none) Set.univ (Scf.Loop.for l ok init body >>= kk) Q) :=
  Scf.wp_for_bind frame (wpE (defs₀ (F := F)) 𝒱₀ (V d tc ts) none) Set.univ l.lb l.ub l.st ok init body I hbody

/-- The loop that clears a block. -/
theorem wp_clear (z : F .f32) (f : Vec F S200x128 .f32) {kk : BitVec 32 → Prog (TpuEff nD τ sig (Elt F) Λ₀ (.scVector tc ts)) α} :
    (Holds (V d tc ts) buf f : sProp 𝕄)
      ⊢ iprop((∀ acc, Holds (V d tc ts) buf (fun _ => z) -∗ wp frame (wpE (defs₀ (F := F)) 𝒱₀ (V d tc ts) none) Set.univ (kk acc) Q)
        -∗ wp frame (wpE (defs₀ (F := F)) 𝒱₀ (V d tc ts) none) Set.univ
          ((Scf.Loop.for k0_t1_loop k0_t1_ok 0#32 fun i _ => do zeroRow buf (broadcast S16 z) i; pure 0#32) >>= kk) Q) := by
  iintro H Hk
  iapply (wp_loop k0_t1_loop k0_t1_ok 0#32 (fun i _ => do zeroRow buf (broadcast S16 z) i; pure 0#32)
    (fun i _ => HoldsCleared (V d tc ts) buf z i 0) ?body) $$ [H] [Hk]
  case body =>
    intro i _
    iintro H
    iapply (wp_zeroRow z i) $$ H
    iintro H
    iapply (le_wp_ret _ _)
    iexact H
  · unfold HoldsCleared
    iexists f
    isplitr
    · ipureintro; intro j hj; omega
    iexact H
  · iintro %acc H
    iapply Hk
    unfold HoldsCleared
    icases H with ⟨%h, %hh, H⟩
    have e : h = fun _ => z := cleared_all (show Cleared z 200 0 h from trips1 ▸ hh)
    rw [e]
    iexact H

end

end Cert.Proof.OneHot

end
-- ==== Proof.Pieces.lean ====
/-
  The pieces of the two shared arrays a task works on, and what lands in them. Task `w` (of 32) reads columns
  `128 w … 128 w + 127` of the transposed indices and writes, at step `st`, the block of the output at row `st / 5`,
  classes `200 (st % 5) …` and the same columns. `oneHot` is the array the kernel leaves.
-/
module

public import proofs.«01_k».proof.Proof.Steps
public import Idealize.ShloMosaic.Lib.Pipeline.ValueKit

@[expose] public section

noncomputable section

namespace Cert.Proof.OneHot

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The transposed indices and the output before its transposition, as a task names them. -/
abbrev iW : Memref sig .scVector .hbm S26x4096 .i32 := Memref.whole main_v0_scv
abbrev oW : Memref sig .scVector .hbm S26x1000x4096 .f32 := Memref.whole main_v1_scv
/-- A task's scratch: its indices and its two blocks. -/
abbrev sT : Memref sig .scVector .vmem S26x128 .i32 := Memref.whole cc0_scratch0
abbrev sA : Memref sig .scVector .vmem S200x128 .f32 := Memref.whole cc0_scratch1
abbrev sB : Memref sig .scVector .vmem S200x128 .f32 := Memref.whole cc0_scratch2

abbrev iLoc (d : Dev nD) : Loc nD τ sig := (SparseCore.T d).loc main_v0
abbrev oLoc (d : Dev nD) : Loc nD τ sig := (SparseCore.T d).loc main_v1

/-- A task's number among the 32. -/
def taskNo (L : grid0.Coords) : Nat := 2 * (L 1).val + (L 0).val

theorem taskNo_lt (L : grid0.Coords) : taskNo L < 32 := by
  have h0 : (L 0).val < 2 := (L 0).isLt
  have h1 : (L 1).val < 16 := (L 1).isLt
  unfold taskNo; omega

/-- The columns of the indices a task reads. -/
def colSet (w : Nat) : Finset S26x4096.Idx := Finset.univ.filter fun j => (j 1).val / 128 = w

/-- The block of the output a task writes at a step. -/
def blkSet (w st : Nat) : Finset S26x1000x4096.Idx :=
  Finset.univ.filter fun j => (j 0).val = st / 5 ∧ (j 1).val / 200 = st % 5 ∧ (j 2).val / 128 = w

theorem mem_colSet {w : Nat} {j : S26x4096.Idx} : j ∈ colSet w ↔ (j 1).val / 128 = w := by
  unfold colSet; rw [Finset.mem_filter]; exact and_iff_right (Finset.mem_univ _)

theorem mem_blkSet {w st : Nat} {j : S26x1000x4096.Idx} :
    j ∈ blkSet w st ↔ (j 0).val = st / 5 ∧ (j 1).val / 200 = st % 5 ∧ (j 2).val / 128 = w := by
  unfold blkSet; rw [Finset.mem_filter]; exact and_iff_right (Finset.mem_univ _)

/-! ## The index window -/

theorem idxWindow_set (L : grid0.Coords) : (idxWindow iW L).view.set = colSet (taskNo L) := by
  ext j
  have h0 : (L 0).val < 2 := (L 0).isLt
  have hj0 : (j 0).val < 26 := (j 0).isLt
  rw [mem_colSet]
  show j ∈ ((View.whole main_v0_scv).slice (Rect.unit (s := S26x4096) (k0_off1 L) S26x128.size (k0_off1_inb L))).set ↔ _
  rw [View.set_slice_whole, Rect.mem_set_unit, k0_off1_eq]
  unfold taskNo
  constructor
  · intro h
    have h1 : 256 * (L 1).val + 128 * (L 0).val ≤ (j 1).val ∧ (j 1).val < 256 * (L 1).val + 128 * (L 0).val + 128 := h 1
    omega
  · intro h a
    match a with
    | 0 => show 0 ≤ (j 0).val ∧ (j 0).val < 0 + 26; omega
    | 1 => show 256 * (L 1).val + 128 * (L 0).val ≤ (j 1).val ∧ (j 1).val < 256 * (L 1).val + 128 * (L 0).val + 128; omega

/-- The indices a task works on: its columns. -/
def taskIdx (idx : S26x4096.Idx → BitVec 32) (L : grid0.Coords) : S26x128.Idx → BitVec 32 :=
  (idxWindow iW L).view.read (Elt F) idx

theorem wordAt_taskIdx (idx : S26x4096.Idx → BitVec 32) (L : grid0.Coords) (r : Fin 26) (b : Fin 128) (x : Fin 4096)
    (hx : x.val = 128 * taskNo L + b.val) : wordAt (taskIdx (F := F) idx L) r b = idx (Shape.pair (d := ![26, 4096]) r x) := by
  unfold wordAt taskIdx
  rw [View.read_apply]
  show idx ((Rect.unit (s := S26x4096) (k0_off1 L) S26x128.size (k0_off1_inb L)).emb (Shape.pair (d := ![26, 128]) r b)) = _
  congr 1
  funext a; apply Fin.ext
  refine (ValueKit.rect_emb_unit_val _ _ _ _ _).trans ?_
  have e0 : k0_off1 L 0 = 0 := congrFun (k0_off1_eq L) 0
  have e1 : k0_off1 L 1 = 256 * (L 1).val + 128 * (L 0).val := congrFun (k0_off1_eq L) 1
  unfold taskNo at hx
  match a with
  | 0 => show k0_off1 L 0 + r.val = r.val; omega
  | 1 => show k0_off1 L 1 + b.val = x.val; omega

/-! ## The output windows -/

theorem offOf_inb (L : grid0.Coords) (st : Nat) (hst : st < 130) : ∀ a, offOf L st a + S1x200x128.size a ≤ S26x1000x4096.size a := by
  have h0 : (L 0).val < 2 := (L 0).isLt
  have h1 : (L 1).val < 16 := (L 1).isLt
  intro a
  match a with
  | 0 => show st / 5 + 1 ≤ 26; omega
  | 1 => show st % 5 * 200 + 200 ≤ 1000; omega
  | 2 => show 256 * (L 1).val + 128 * (L 0).val + 128 ≤ 4096; omega

theorem window_set (L : grid0.Coords) (st : Nat) {off : Fin 3 → Nat} (hoff : off = offOf L st)
    (h : ∀ a, off a + S1x200x128.size a ≤ S26x1000x4096.size a) : (window oW off h).view.set = blkSet (taskNo L) st := by
  subst hoff
  ext j
  have h0 : (L 0).val < 2 := (L 0).isLt
  rw [mem_blkSet, Memref.set_view_squeeze]
  show j ∈ ((View.whole main_v1_scv).slice (Rect.unit (s := S26x1000x4096) (offOf L st) S1x200x128.size h)).set ↔ _
  rw [View.set_slice_whole, Rect.mem_set_unit]
  unfold taskNo
  constructor
  · intro hh
    have h1 : st / 5 ≤ (j 0).val ∧ (j 0).val < st / 5 + 1 := hh 0
    have h2 : st % 5 * 200 ≤ (j 1).val ∧ (j 1).val < st % 5 * 200 + 200 := hh 1
    have h3 : 256 * (L 1).val + 128 * (L 0).val ≤ (j 2).val ∧ (j 2).val < 256 * (L 1).val + 128 * (L 0).val + 128 := hh 2
    refine ⟨by omega, by omega, by omega⟩
  · rintro ⟨h1, h2, h3⟩ a
    match a with
    | 0 => show st / 5 ≤ (j 0).val ∧ (j 0).val < st / 5 + 1; omega
    | 1 => show st % 5 * 200 ≤ (j 1).val ∧ (j 1).val < st % 5 * 200 + 200; omega
    | 2 => show 256 * (L 1).val + 128 * (L 0).val ≤ (j 2).val ∧ (j 2).val < 256 * (L 1).val + 128 * (L 0).val + 128; omega

/-- Where an element of the block lies in the output. -/
theorem window_emb (off : Fin 3 → Nat) (h : ∀ a, off a + S1x200x128.size a ≤ S26x1000x4096.size a) (x : S200x128.Idx) :
    ((window oW off h).view.emb x 0).val = off 0 ∧ ((window oW off h).view.emb x 1).val = off 1 + (x 0).val
      ∧ ((window oW off h).view.emb x 2).val = off 2 + (x 1).val := by
  have e : (window oW off h).view.emb x
      = (Rect.unit (s := S26x1000x4096) off S1x200x128.size h).emb (Shape.reshapeEquiv squeezes_S1x200x128_S200x128.numel_eq x) := rfl
  have c : Shape.reshapeEquiv squeezes_S1x200x128_S200x128.numel_eq x = (Fin.cons ⟨0, Nat.one_pos⟩ x : S1x200x128.Idx) :=
    Shape.reshapeEquiv_cons_one (d := ![200, 128]) squeezes_S1x200x128_S200x128.numel_eq x
  rw [e, c]
  refine ⟨?_, ?_, ?_⟩ <;> rw [ValueKit.rect_emb_unit_val] <;> rfl

/-! ## What the kernel computes -/

variable [FloatOps F]

abbrev oneF : F .f32 := Scalar.ofBits .f32 0x3F800000#32
abbrev zeroF : F .f32 := Scalar.ofBits .f32 0x00000000#32

/-- One where the class is the index's, zero elsewhere. -/
def oneHot (idx : S26x4096.Idx → BitVec 32) : S26x1000x4096.Idx → F .f32 :=
  fun j => if idx (Shape.pair (d := ![26, 4096]) (j 0) (j 2)) = BitVec.ofNat 32 (j 1).val then oneF else zeroF

/-- A step's row of the indices. -/
def rowAt (st : Nat) : Fin 26 := ⟨st / 5 % 26, Nat.mod_lt _ (by decide)⟩

theorem rowAt_val {st : Nat} (h : st < 130) : (rowAt st).val = st / 5 := by
  show st / 5 % 26 = st / 5
  omega

/-- The block a task sends off at a step. -/
def block (t : S26x128.Idx → BitVec 32) (st : Nat) : Vec F S200x128 .f32 :=
  put t (rowAt st) (st % 5 * 200) 128 oneF (fun _ => zeroF)

/-- A block written through its window leaves the one-hot array there. -/
theorem window_write (idx : S26x4096.Idx → BitVec 32) (L : grid0.Coords) (st : Nat) (hst : st < 130) {off : Fin 3 → Nat} (hoff : off = offOf L st)
    (h : ∀ a, off a + S1x200x128.size a ≤ S26x1000x4096.size a) (f : S26x1000x4096.Idx → F .f32) :
    ∀ i ∈ (window oW off h).view.set,
      (window oW off h).view.write (Elt F) f (block (taskIdx (F := F) idx L) st) Finset.univ i = oneHot idx i := by
  subst hoff
  intro i hi
  obtain ⟨x, -, rfl⟩ := Finset.mem_map.1 hi
  rw [View.write_emb_of_mem _ _ (Finset.mem_univ x)]
  obtain ⟨e0, e1, e2⟩ := window_emb (offOf L st) h x
  generalize (window oW (offOf L st) h).view.emb x = j at e0 e1 e2
  have hx1 : (x 1).val < 128 := (x 1).isLt
  have e0' : (j 0).val = st / 5 := e0
  have e1' : (j 1).val = st % 5 * 200 + (x 0).val := e1
  have e2' : (j 2).val = 256 * (L 1).val + 128 * (L 0).val + (x 1).val := e2
  refine (cast_eq _ _).trans ?_
  have hr : rowAt st = j 0 := Fin.ext ((rowAt_val hst).trans e0'.symm)
  have hw : wordAt (taskIdx (F := F) idx L) (rowAt st) (x 1) = idx (Shape.pair (d := ![26, 4096]) (j 0) (j 2)) := by
    rw [hr]
    exact wordAt_taskIdx idx L (j 0) (x 1) (j 2) (by unfold taskNo; omega)
  have hn : ((x 1).val < 128 ∧ Names (taskIdx (F := F) idx L) (rowAt st) (st % 5 * 200) x)
      ↔ idx (Shape.pair (d := ![26, 4096]) (j 0) (j 2)) = BitVec.ofNat 32 (j 1).val := by
    rw [e1', ← hw]
    exact and_iff_right hx1
  exact if_congr hn rfl rfl

end Cert.Proof.OneHot

end
-- ==== Proof.Turn.lean ====
/-
  A block's way out: sending a prepared block off, taking the buffer back when it has arrived, and one turn of a
  buffer — take it back, clear the ones it holds, set the next step's, send it off.
-/
module

public import proofs.«01_k».proof.Proof.Pieces

@[expose] public section

noncomputable section

namespace Cert.Proof.OneHot

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- What the thread owes, after waits on its own semaphores only. -/
def Owed (thr : Thread nD τ) (O : CellTallies nD τ sig (HIx 1)) (W : Waits sig (HIx 1)) : sProp 𝕄 :=
  iprop(∃ W' : Waits sig (HIx 1), ⌜∀ p ∈ W', p ∈ W ∨ p.2 = none⌝ ∗ owes thr O W')

theorem owed_intro (thr : Thread nD τ) (O : CellTallies nD τ sig (HIx 1)) (W : Waits sig (HIx 1)) :
    (owes thr O W : sProp 𝕄) ⊢ Owed thr O W := by
  unfold Owed
  iintro H
  iexists W
  isplitr
  · ipureintro; exact fun p hp => .inl hp
  iexact H

/-- Ownership of elements depends on their values alone. -/
theorem pts_mono {ℓ : Loc nD τ sig} {I : Finset (Idx ℓ)} {q : PosShare TreeShare} {f g : Buf (Elt F) ℓ} (h : ∀ i ∈ I, f i = g i) :
    (ℓ ↦[I]{q} f : sProp 𝕄) ⊢ (ℓ ↦[I]{q} g) := by
  rw [pointsTo_congr h]

/-- The size of a block as the transfers count it, and of the indices. -/
abbrev blkAmount : ℕ := sig.dmaCredit .scVector (Kind.scVector.table .hbm) (main_v1_scv : Ref sig .scVector).idx S200x128 .f32

section
variable [FloatOps F] {d : Dev nD} {tc : Fin τ.nSC} {ts : Fin τ.nSub} {α : Type} {Q : α → sProp (MT nD τ sig (HIx 1) (Elt F) ℕ UU ℕ)}
  {k : PUnit → Prog (TpuEff nD τ sig (Elt F) Λ₀ (.scVector tc ts)) α}

/-- A wait for a transfer in flight. -/
theorem wp_collect {sp sp' : Space} {s s' : Shape} {e e' : EltTy} {sem : DmaSem sig}
    {srcw : Memref sig .scVector sp' s' e'} {dstw : Memref sig .scVector sp s e} {hsrc : srcw.view.WordExact} {hdst : dstw.view.WordExact}
    {N : ℕ} (hN : dstw.view.dmaCredit = N) (D : sProp (MT nD τ sig (HIx 1) (Elt F) ℕ UU ℕ)) (O : CellTallies nD τ sig (HIx 1)) (W : Waits sig (HIx 1)) :
    (iprop(Transfers.Flight countersEmb (V d tc ts) (.dma sem) none N D ∗ Transfers.MayWaits (V d tc ts) none O ∗ Owed (V d tc ts) O W) : sProp 𝕄)
      ⊢ iprop((iprop(D ∗ semVal (V d tc ts, .dma sem) 0 ∗ Owed (V d tc ts) O W) -∗ wp frame (wpE (defs₀ (F := F)) 𝒱₀ (V d tc ts) none) Set.univ (k ⟨⟩) Q)
        -∗ wp frame (wpE (defs₀ (F := F)) 𝒱₀ (V d tc ts) none) Set.univ (.op (.waitDma2 sem srcw dstw hsrc hdst) k) Q) := by
  unfold Owed
  iintro ⟨Hf, Hm, %W', %hW, Ho⟩ Hk
  ihave Hm := (Transfers.MayWaits.elim (.dma sem)) $$ Hm
  iapply (Transfers.wp_waitLocalO countersEmb 𝒱₀ (V d tc ts) none (defs := defs₀ (F := F)) none hN) $$ [Hf Ho Hm]
  · isplitl [Hf]; · iexact Hf
    isplitl [Ho]; · iexact Ho
    iexact Hm
  iintro ⟨HD, Hv, Ho⟩
  iapply Hk
  isplitl [HD]; · iexact HD
  isplitl [Hv]; · iexact Hv
  iexists (insert (SemLoc.dma sem, none) W')
  isplitr
  · ipureintro
    intro p hp
    rcases Finset.mem_insert.1 hp with hp | hp
    · exact .inr (congrArg Prod.snd hp)
    · exact hW p hp
  iexact Ho

variable (idx : S26x4096.Idx → BitVec 32) (L : grid0.Coords)

/-- What a block's transfer delivers: its block of the output, one-hot, and the buffer back. -/
def Sent (d : Dev nD) (tc : Fin τ.nSC) (ts : Fin τ.nSub) (buf : Memref sig .scVector .vmem S200x128 .f32) (st : Nat) : sProp 𝕄 :=
  iprop((oLoc d ↦[blkSet (taskNo L) st]{fullShare} oneHot (F := F) idx) ∗ Holds (V d tc ts) buf (block (taskIdx (F := F) idx L) st))

/-- Sending a prepared block off. -/
theorem wp_send (st : Nat) (hst : st < 130) {off : Fin 3 → Nat} (hoff : off = offOf L st)
    {h : ∀ a, off a + S1x200x128.size a ≤ S26x1000x4096.size a} {buf : Memref sig .scVector .vmem S200x128 .f32} {sem : DmaSem sig}
    (f0 : S26x1000x4096.Idx → F .f32) {hsrc hdst hsem} :
    (iprop(Holds (V d tc ts) buf (block (taskIdx (F := F) idx L) st) ∗ (oLoc d ↦[blkSet (taskNo L) st]{fullShare} f0) ∗ semVal (V d tc ts, .dma sem) 0) : sProp 𝕄)
      ⊢ iprop((Transfers.Flight countersEmb (V d tc ts) (.dma sem) none blkAmount (Sent idx L d tc ts buf st)
            -∗ wp frame (wpE (defs₀ (F := F)) 𝒱₀ (V d tc ts) none) Set.univ (k ⟨⟩) Q)
        -∗ wp frame (wpE (defs₀ (F := F)) 𝒱₀ (V d tc ts) none) Set.univ
            (.op (.enqueueDmaAs buf (.here (window oW off h)) .same (.dma sem) hsrc hdst hsem) k) Q) := by
  rw [← window_set L st hoff h]
  unfold Holds
  iintro ⟨⟨%g, %hg, Hb⟩, Ho, Hv⟩ Hk
  iapply (Transfers.wp_dmaLocal countersEmb 𝒱₀ (V d tc ts) none (defs := defs₀ (F := F)) (src := buf) (dst := window oW off h)
    (fs := g) (fd := f0) (q := fullShare) none blkAmount rfl (View.dmaCredit_pos (window oW off h).view (show 0 < S200x128.numel by decide)) (Finset.Subset.refl _)) $$ [Hb Ho Hv]
  · isplitl [Hb]; · iexact Hb
    isplitl [Ho]; · iexact Ho
    iexact Hv
  iintro Hf
  iapply Hk
  iapply (Transfers.Flight_mono countersEmb (V d tc ts) ?mono) $$ Hf
  case mono =>
    unfold Sent Holds
    rw [← window_set L st hoff h]
    iintro ⟨Ho, Hb⟩
    isplitl [Ho]
    · iapply (pts_mono (window_write idx L st hst hoff h f0))
      rw [← hg]
      iexact Ho
    · iexists g
      isplitr
      · ipureintro; exact hg
      iexact Hb

/-- One turn of a buffer. -/
theorem wp_turn (st : Nat) (hst : st + 2 < 130) {off off' : Fin 3 → Nat} (hoff : off' = offOf L (st + 2))
    {h : ∀ a, off a + S1x200x128.size a ≤ S26x1000x4096.size a} {h' : ∀ a, off' a + S1x200x128.size a ≤ S26x1000x4096.size a}
    {buf : Memref sig .scVector .vmem S200x128 .f32} {sem : DmaSem sig} {r c r' c' : BitVec 32}
    (hr : r = BitVec.ofNat 32 (st / 5)) (hc : c = BitVec.ofNat 32 (st % 5 * 200))
    (hr' : r' = BitVec.ofNat 32 ((st + 2) / 5)) (hc' : c' = BitVec.ofNat 32 ((st + 2) % 5 * 200))
    (f0 : S26x1000x4096.Idx → F .f32) (O : CellTallies nD τ sig (HIx 1)) (W : Waits sig (HIx 1)) {hsrc hdst hsrc' hdst' hsem} :
    (iprop(Transfers.MayWaits (V d tc ts) none O ∗ Owed (V d tc ts) O W ∗ Holds (V d tc ts) sT (taskIdx (F := F) idx L)
          ∗ Transfers.Flight countersEmb (V d tc ts) (.dma sem) none blkAmount (Sent idx L d tc ts buf st)
          ∗ (oLoc d ↦[blkSet (taskNo L) (st + 2)]{fullShare} f0)) : sProp 𝕄)
      ⊢ iprop((iprop(Owed (V d tc ts) O W ∗ Holds (V d tc ts) sT (taskIdx (F := F) idx L)
              ∗ Transfers.Flight countersEmb (V d tc ts) (.dma sem) none blkAmount (Sent idx L d tc ts buf (st + 2))
              ∗ (oLoc d ↦[blkSet (taskNo L) st]{fullShare} oneHot (F := F) idx))
            -∗ wp frame (wpE (defs₀ (F := F)) 𝒱₀ (V d tc ts) none) Set.univ (k ⟨⟩) Q)
        -∗ wp frame (wpE (defs₀ (F := F)) 𝒱₀ (V d tc ts) none) Set.univ
            (.op (.waitDma2 sem buf (window oW off h) hsrc hdst) fun _ =>
              scatter sT buf r c zeros16 >>= fun _ => scatter sT buf r' c' ones16 >>= fun _ =>
                .op (.enqueueDmaAs buf (.here (window oW off' h')) .same (.dma sem) hsrc' hdst' hsem) k) Q) := by
  have er : r = BitVec.ofNat 32 (rowAt st).val := by rw [hr, rowAt_val (by omega)]
  have er' : r' = BitVec.ofNat 32 (rowAt (st + 2)).val := by rw [hr', rowAt_val hst]
  subst er er' hc hc'
  clear hr hr'
  iintro ⟨Hm, Ho, Ht, Hf, Hn⟩ Hk
  iapply (wp_collect (N := blkAmount) rfl (Sent idx L d tc ts buf st) O W) $$ [Hf Hm Ho]
  · isplitl [Hf]; · iexact Hf
    isplitl [Hm]; · iexact Hm
    iexact Ho
  iintro ⟨HS, Hv, Ho⟩
  unfold Sent
  icases HS with ⟨Hd, Hb⟩
  iapply (wp_scatter (d := d) (arg4 := sT) (buf := buf) (taskIdx (F := F) idx L) (rowAt st) (st % 5 * 200) zeroF (block (taskIdx (F := F) idx L) st)) $$ [Ht Hb]
  · isplitl [Ht]; · iexact Ht
    iexact Hb
  iintro ⟨Ht, Hb⟩
  iapply (wp_scatter (d := d) (arg4 := sT) (buf := buf) (taskIdx (F := F) idx L) (rowAt (st + 2)) ((st + 2) % 5 * 200) oneF _) $$ [Ht Hb]
  · isplitl [Ht]; · iexact Ht
    iexact Hb
  iintro ⟨Ht, Hb⟩
  unfold block
  rw [put_put]
  iapply (wp_send idx L (st + 2) hst hoff f0) $$ [Hb Hn Hv]
  · unfold block
    isplitl [Hb]; · iexact Hb
    isplitl [Hn]; · iexact Hn
    iexact Hv
  iintro Hf
  iapply Hk
  isplitl [Ho]; · iexact Ho
  isplitl [Ht]; · iexact Ht
  isplitl [Hf]; · unfold Sent block; iexact Hf
  iexact Hd

end

end Cert.Proof.OneHot

end
-- ==== Proof.Tile.lean ====
/-
  One task: it fetches its columns of the indices, sends off the first two blocks, takes 64 turns of each buffer, and
  takes the last two blocks back. At trip `k` of the main loop the blocks of the steps before `2 k` are done, those of
  steps `2 k` and `2 k + 1` are on their way, and the rest are as they were.
-/
module

public import proofs.«01_k».proof.Proof.Turn

@[expose] public section

noncomputable section

namespace Cert.Proof.OneHot

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem range_top (n : Nat) : Finset.range (n + 1) = insert n (Finset.range n) := Finset.range_add_one

theorem ico_head {n m : Nat} (h : n < m) : Finset.Ico n m = insert n (Finset.Ico (n + 1) m) := by
  ext x
  simp only [Finset.mem_Ico, Finset.mem_insert]
  omega

/-- The memref's elements are owned, whatever they hold. -/
def Free (thr : Thread nD τ) {sp : Space} {s : Shape} {e : EltTy} (m : Memref sig thr.2.kind sp s e) : sProp 𝕄 := iprop(∃ h, Holds thr m h)

theorem Holds.free {thr : Thread nD τ} {sp : Space} {s : Shape} {e : EltTy} {m : Memref sig thr.2.kind sp s e} (h : s.Idx → Elt F e) :
    (Holds thr m h : sProp 𝕄) ⊢ Free thr m := by
  unfold Free
  iintro H
  iexists h
  iexact H

variable [FloatOps F] (idx : S26x4096.Idx → BitVec 32) (f0 : S26x1000x4096.Idx → F .f32) (L : grid0.Coords) (d : Dev nD)

/-- A block of the output holding `f`. -/
abbrev Blk (f : S26x1000x4096.Idx → F .f32) (st : Nat) : sProp 𝕄 := (oLoc d ↦[blkSet (taskNo L) st]{fullShare} f)

section
variable {tc : Fin τ.nSC} {ts : Fin τ.nSub} {α : Type} {Q : α → sProp (MT nD τ sig (HIx 1) (Elt F) ℕ UU ℕ)}
  {k : PUnit → Prog (TpuEff nD τ sig (Elt F) Λ₀ (.scVector tc ts)) α}

/-- The first block of a buffer: its ones are set on a cleared buffer, and it goes off. -/
theorem wp_first (st : Nat) (hst : st < 130) {off : Fin 3 → Nat} (hoff : off = offOf L st)
    {h : ∀ a, off a + S1x200x128.size a ≤ S26x1000x4096.size a} {buf : Memref sig .scVector .vmem S200x128 .f32} {sem : DmaSem sig} {r c : BitVec 32}
    (hr : r = BitVec.ofNat 32 (st / 5)) (hc : c = BitVec.ofNat 32 (st % 5 * 200)) {hsrc hdst hsem} :
    (iprop(Holds (V d tc ts) sT (taskIdx (F := F) idx L) ∗ Holds (V d tc ts) buf (fun _ => zeroF) ∗ Blk L d f0 st ∗ semVal (V d tc ts, .dma sem) 0) : sProp 𝕄)
      ⊢ iprop((iprop(Holds (V d tc ts) sT (taskIdx (F := F) idx L)
              ∗ Transfers.Flight countersEmb (V d tc ts) (.dma sem) none blkAmount (Sent idx L d tc ts buf st))
            -∗ wp frame (wpE (defs₀ (F := F)) 𝒱₀ (V d tc ts) none) Set.univ (k ⟨⟩) Q)
        -∗ wp frame (wpE (defs₀ (F := F)) 𝒱₀ (V d tc ts) none) Set.univ
            (scatter sT buf r c ones16 >>= fun _ => .op (.enqueueDmaAs buf (.here (window oW off h)) .same (.dma sem) hsrc hdst hsem) k) Q) := by
  have er : r = BitVec.ofNat 32 (rowAt st).val := by rw [hr, rowAt_val hst]
  subst er hc
  clear hr
  iintro ⟨Ht, Hb, Ho, Hv⟩ Hk
  iapply (wp_scatter (d := d) (arg4 := sT) (buf := buf) (taskIdx (F := F) idx L) (rowAt st) (st % 5 * 200) oneF _) $$ [Ht Hb]
  · isplitl [Ht]; · iexact Ht
    iexact Hb
  iintro ⟨Ht, Hb⟩
  iapply (wp_send idx L st hst hoff f0) $$ [Hb Ho Hv]
  · unfold block
    isplitl [Hb]; · iexact Hb
    isplitl [Ho]; · iexact Ho
    iexact Hv
  iintro Hf
  iapply Hk
  isplitl [Ht]; · iexact Ht
  iexact Hf

/-- The task fetches its indices. -/
theorem wp_fetch {sem : DmaSem sig} (O : CellTallies nD τ sig (HIx 1)) (W : Waits sig (HIx 1)) {hsrc hdst hsem hsrc' hdst'} :
    (iprop(Transfers.MayWaits (V d tc ts) none O ∗ Owed (V d tc ts) O W ∗ (iLoc d ↦[colSet (taskNo L)]{fullShare} idx) ∗ Free (V d tc ts) sT
          ∗ semVal (V d tc ts, .dma sem) 0) : sProp 𝕄)
      ⊢ iprop((iprop(Owed (V d tc ts) O W ∗ (iLoc d ↦[colSet (taskNo L)]{fullShare} idx) ∗ Holds (V d tc ts) sT (taskIdx (F := F) idx L)
              ∗ semVal (V d tc ts, .dma sem) 0)
            -∗ wp frame (wpE (defs₀ (F := F)) 𝒱₀ (V d tc ts) none) Set.univ (k ⟨⟩) Q)
        -∗ wp frame (wpE (defs₀ (F := F)) 𝒱₀ (V d tc ts) none) Set.univ
            (.op (.enqueueDmaAs (idxWindow iW L) (.here sT) .same (.dma sem) hsrc hdst hsem) fun _ =>
              .op (.waitDma2 sem (idxWindow iW L) sT hsrc' hdst') k) Q) := by
  rw [← idxWindow_set L]
  unfold Free Holds
  iintro ⟨Hm, Ho, Hi, ⟨%h0, %g, -, Ht⟩, Hv⟩ Hk
  iapply (Transfers.wp_dmaLocal countersEmb 𝒱₀ (V d tc ts) none (defs := defs₀ (F := F)) (src := idxWindow iW L) (dst := sT)
    (fs := idx) (fd := g) (q := fullShare) (sm := .dma sem) none (sT).view.dmaCredit rfl (View.dmaCredit_pos (sT).view (show 0 < S26x128.numel by decide)) (Finset.Subset.refl _)) $$ [Hi Ht Hv]
  · isplitl [Hi]; · iexact Hi
    isplitl [Ht]; · iexact Ht
    iexact Hv
  iintro Hf
  iapply (wp_collect rfl _ O W) $$ [Hf Hm Ho]
  · isplitl [Hf]; · iexact Hf
    isplitl [Hm]; · iexact Hm
    iexact Ho
  iintro ⟨⟨Ht, Hi⟩, Hv, Ho⟩
  iapply Hk
  isplitl [Ho]; · iexact Ho
  isplitl [Hi]; · iexact Hi
  isplitl [Ht]
  · iexists ((sT).view.write (Elt F) g (taskIdx (F := F) idx L) Finset.univ)
    isplitr
    · ipureintro; exact View.read_write_univ _ _
    iexact Ht
  iexact Hv

end

/-- The thread of a task. -/
abbrev coreOf : Fin τ.nSC := (L 0).castLE hcore0
abbrev subOf : Fin τ.nSub := (L 1).castLE hsub0
abbrev thrOf : Thread nD τ := V d (coreOf L) (subOf L)

section
variable (arg7 arg8 v224_r0 : DmaSems sig S_) (O : CellTallies nD τ sig (HIx 1)) (W : Waits sig (HIx 1))

/-- The state between trips of the main loop. -/
def Mid (k : Nat) : sProp 𝕄 :=
  iprop(Transfers.MayWaits (thrOf L d) none O ∗ Owed (thrOf L d) O W ∗ Holds (thrOf L d) sT (taskIdx (F := F) idx L)
    ∗ Transfers.Flight countersEmb (thrOf L d) (.dma arg7.sem) none blkAmount (Sent idx L d (coreOf L) (subOf L) sA (2 * k))
    ∗ Transfers.Flight countersEmb (thrOf L d) (.dma arg8.sem) none blkAmount (Sent idx L d (coreOf L) (subOf L) sB (2 * k + 1))
    ∗ bigSep (Finset.range (2 * k)) (Blk L d (oneHot (F := F) idx))
    ∗ bigSep (Finset.Ico (2 * k + 2) 130) (Blk L d f0))

variable (harg5 : (sA).IsWhole) (harg6 : (sB).IsWhole)

/-- One trip: a turn of each buffer. -/
theorem wp_pair (k : Fin k0_t3_loop.trips) :
    (Mid idx f0 L d arg7 arg8 O W k.val : sProp 𝕄)
      ⊢ wp frame (wpE (defs₀ (F := F)) 𝒱₀ (thrOf L d) none) Set.univ
          (pairBody (F := F) L oW sT sA harg5 sB harg6 arg7 arg8 k) fun _ => Mid idx f0 L d arg7 arg8 O W (k.val + 1) := by
  have hk : k.val < 64 := trips3 ▸ k.isLt
  obtain ⟨⟨a1, a2⟩, ⟨b1, b2⟩, ⟨c1, c2⟩, e1, e2⟩ := step_words k
  have h22 : 2 * (k.val + 1) = 2 * k.val + 1 + 1 := by omega
  have h23 : 2 * (k.val + 1) + 1 = 2 * k.val + 1 + 2 := by omega
  have h24 : 2 * (k.val + 1) = 2 * k.val + 2 := by omega
  have h25 : 2 * (k.val + 1) + 2 = 2 * k.val + 2 + 1 + 1 := by omega
  unfold Mid pairBody
  simp only [Prog.lift, bind_assoc, Prog.bind_op, Prog.bind_ret]
  rw [ico_head (show 2 * k.val + 2 < 130 by omega), ico_head (show 2 * k.val + 2 + 1 < 130 by omega),
    SparseCore.bigSep_insert' (by simp), SparseCore.bigSep_insert' (by simp)]
  iintro ⟨#Hm, Ho, Ht, HA, HB, Hd, Hn1, Hn2, Hn⟩
  iapply (wp_turn idx L (2 * k.val) (by omega) (off21_eq L k) a1 a2 b1 b2 f0 O W) $$ [Ho Ht HA Hn1]
  · isplitr; · iexact Hm
    isplitl [Ho]; · iexact Ho
    isplitl [Ht]; · iexact Ht
    isplitl [HA]; · iexact HA
    iexact Hn1
  iintro ⟨Ho, Ht, HA, Hd1⟩
  iapply (wp_turn idx L (2 * k.val + 1) (by omega) (off23_eq L k) c1 c2 e1 e2 f0 O W) $$ [Ho Ht HB Hn2]
  · isplitr; · iexact Hm
    isplitl [Ho]; · iexact Ho
    isplitl [Ht]; · iexact Ht
    isplitl [HB]; · iexact HB
    iexact Hn2
  iintro ⟨Ho, Ht, HB, Hd2⟩
  iapply (le_wp_ret _ _)
  isplitr; · iexact Hm
  isplitl [Ho]; · iexact Ho
  isplitl [Ht]; · iexact Ht
  isplitl [HA]; · rw [h24]; iexact HA
  isplitl [HB]; · rw [h23]; iexact HB
  isplitl [Hd Hd1 Hd2]
  · rw [h22, range_top, range_top, SparseCore.bigSep_insert' (by simp), SparseCore.bigSep_insert' (by simp)]
    isplitl [Hd2]; · iexact Hd2
    isplitl [Hd1]; · iexact Hd1
    iexact Hd
  · rw [h25]
    iexact Hn

variable (harg4 : (sT).IsWhole)

/-- The task leaves its columns of the output one-hot, its columns of the indices as they were. -/
theorem wp_task :
    (iprop(Transfers.MayWaits (thrOf L d) none O ∗ owes (thrOf L d) O W ∗ (iLoc d ↦[colSet (taskNo L)]{fullShare} idx)
        ∗ bigSep (Finset.range 130) (Blk L d f0)
        ∗ Free (thrOf L d) sT ∗ Free (thrOf L d) sA ∗ Free (thrOf L d) sB
        ∗ semVal (thrOf L d, .dma arg7.sem) 0 ∗ semVal (thrOf L d, .dma arg8.sem) 0 ∗ semVal (thrOf L d, .dma v224_r0.sem) 0) : sProp 𝕄)
      ⊢ wp frame (wpE (defs₀ (F := F)) 𝒱₀ (thrOf L d) none) Set.univ
          (tileBody (F := F) L iW oW sT harg4 sA harg5 sB harg6 arg7 arg8 v224_r0)
          fun _ => iprop((iLoc d ↦[colSet (taskNo L)]{fullShare} idx) ∗ bigSep (Finset.range 130) (Blk L d (oneHot (F := F) idx))
            ∗ Free (thrOf L d) sT ∗ Free (thrOf L d) sA ∗ Free (thrOf L d) sB
            ∗ semVal (thrOf L d, .dma arg7.sem) 0 ∗ semVal (thrOf L d, .dma arg8.sem) 0 ∗ semVal (thrOf L d, .dma v224_r0.sem) 0
            ∗ Owed (thrOf L d) O W) := by
  unfold tileBody
  simp only [Prog.lift, bind_assoc, Prog.bind_op, Prog.bind_ret]
  have e0 : bigSep (Finset.range 130) (Blk L d f0)
      = (iprop(Blk L d f0 0 ∗ Blk L d f0 1 ∗ bigSep (Finset.Ico 2 130) (Blk L d f0)) : sProp 𝕄) := by
    rw [Finset.range_eq_Ico, ico_head (show 0 < 130 by omega), ico_head (show 0 + 1 < 130 by omega),
      SparseCore.bigSep_insert' (by simp), SparseCore.bigSep_insert' (by simp)]
  rw [e0]
  iintro ⟨#Hm, Ho, Hi, ⟨Hn1, Hn2, Hn⟩, Ht, HA, HB, Hv7, Hv8, Hv⟩
  ihave Ho := (owed_intro (thrOf L d) O W) $$ Ho
  iapply (wp_fetch idx L d O W) $$ [Ho Hi Ht Hv]
  · isplitr; · iexact Hm
    isplitl [Ho]; · iexact Ho
    isplitl [Hi]; · iexact Hi
    isplitl [Ht]; · iexact Ht
    iexact Hv
  iintro ⟨Ho, Hi, Ht, Hv⟩
  unfold Free
  icases HA with ⟨%fA, HA⟩
  icases HB with ⟨%fB, HB⟩
  iapply (wp_clear zeroF fA) $$ HA
  iintro %_ HA
  iapply (wp_first idx f0 L d 0 (by omega) (k0_off10_eq L) rfl rfl) $$ [Ht HA Hn1 Hv7]
  · isplitl [Ht]; · iexact Ht
    isplitl [HA]; · iexact HA
    isplitl [Hn1]; · iexact Hn1
    iexact Hv7
  iintro ⟨Ht, HA⟩
  iapply (wp_clear zeroF fB) $$ HB
  iintro %_ HB
  iapply (wp_first idx f0 L d 1 (by omega) (k0_off19_eq L) rfl rfl) $$ [Ht HB Hn2 Hv8]
  · isplitl [Ht]; · iexact Ht
    isplitl [HB]; · iexact HB
    isplitl [Hn2]; · iexact Hn2
    iexact Hv8
  iintro ⟨Ht, HB⟩
  iapply (wp_loop k0_t3_loop k0_t3_ok 0#32 (fun k _ => pairBody (F := F) L oW sT sA harg5 sB harg6 arg7 arg8 k)
    (fun k _ => Mid idx f0 L d arg7 arg8 O W k) (fun k _ => wp_pair idx f0 L d arg7 arg8 O W harg5 harg6 k)) $$ [Ho Ht HA HB Hn]
  · unfold Mid
    isplitr; · iexact Hm
    isplitl [Ho]; · iexact Ho
    isplitl [Ht]; · iexact Ht
    isplitl [HA]; · iexact HA
    isplitl [HB]; · iexact HB
    isplitr
    · rw [show Finset.range (2 * 0) = ∅ from rfl, BI.bigSep_empty]; iempintro
    iexact Hn
  iintro %_ HM
  rw [trips3]
  unfold Mid
  icases HM with ⟨-, Ho, Ht, HA, HB, Hd, Hn⟩
  iapply (wp_collect (N := blkAmount) rfl (Sent idx L d (coreOf L) (subOf L) sA (2 * 64)) O W) $$ [HA Ho]
  · isplitl [HA]; · iexact HA
    isplitr; · iexact Hm
    iexact Ho
  iintro ⟨HS, Hv7, Ho⟩
  unfold Sent
  icases HS with ⟨Hd1, HA⟩
  iapply (wp_collect (N := blkAmount) rfl (Sent idx L d (coreOf L) (subOf L) sB (2 * 64 + 1)) O W) $$ [HB Ho]
  · isplitl [HB]; · unfold Sent; iexact HB
    isplitr; · iexact Hm
    iexact Ho
  iintro ⟨HS, Hv8, Ho⟩
  unfold Sent
  icases HS with ⟨Hd2, HB⟩
  iapply (le_wp_ret _ _)
  isplitl [Hi]; · iexact Hi
  isplitl [Hd Hd1 Hd2]
  · rw [range_top 129, range_top 128, SparseCore.bigSep_insert' (by simp), SparseCore.bigSep_insert' (by simp)]
    isplitl [Hd2]; · iexact Hd2
    isplitl [Hd1]; · iexact Hd1
    iexact Hd
  isplitl [Ht]; · iexists _; iexact Ht
  isplitl [HA]; · iexists _; iexact HA
  isplitl [HB]; · iexists _; iexact HB
  isplitl [Hv7]; · iexact Hv7
  isplitl [Hv8]; · iexact Hv8
  isplitl [Hv]; · iexact Hv
  iexact Ho

end

end Cert.Proof.OneHot

end
-- ==== Proof.Launch.lean ====
/-
  The launch: the 32 tasks' pieces cover the two shared arrays, the host transposes the indices before the call and the
  output after it, and the program ends with the one-hot array of its argument.
-/
module

public import proofs.«01_k».proof.Proof.Tile

@[expose] public section

noncomputable section

namespace Cert.Proof.OneHot

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' half of the launch's ghost state. -/
abbrev EH : Emb UH (MT nD τ sig (HIx 1) (Elt F) ℕ UU ℕ) := embL

/-! ## The two arrays in pieces -/

theorem colSet_disjoint {w w' : Nat} (h : w ≠ w') : Disjoint (colSet w) (colSet w') :=
  Finset.disjoint_left.2 fun j hj hj' => h ((mem_colSet.1 hj).symm.trans (mem_colSet.1 hj'))

theorem blkSet_disjoint {w w' st st' : Nat} (h : (w, st) ≠ (w', st')) : Disjoint (blkSet w st) (blkSet w' st') :=
  Finset.disjoint_left.2 fun j hj hj' => by
    obtain ⟨a1, a2, a3⟩ := mem_blkSet.1 hj
    obtain ⟨b1, b2, b3⟩ := mem_blkSet.1 hj'
    have hst : st = st' := by omega
    have hw : w = w' := by omega
    exact h (by rw [hst, hw])

/-- A task's number, from its SparseCore and subcore. -/
def numOf (p : Fin 2 × Fin 16) : Nat := 2 * p.2.val + p.1.val

theorem numOf_injective {p p' : Fin 2 × Fin 16} (h : numOf p = numOf p') : p = p' := by
  obtain ⟨c, s⟩ := p
  obtain ⟨c', s'⟩ := p'
  unfold numOf at h
  dsimp only at h
  have h1 : c.val = c'.val := by omega
  have h2 : s.val = s'.val := by omega
  exact Prod.ext (Fin.ext h1) (Fin.ext h2)

theorem exists_numOf {w : Nat} (h : w < 32) : ∃ p : Fin 2 × Fin 16, numOf p = w :=
  ⟨(⟨w % 2, by omega⟩, ⟨w / 2, by omega⟩), by show 2 * (w / 2) + w % 2 = w; omega⟩

theorem cols_cover : (Finset.univ : Finset (Fin 2 × Fin 16)).biUnion (fun p => colSet (numOf p)) = Finset.univ := by
  ext j
  simp only [Finset.mem_biUnion, Finset.mem_univ, true_and, iff_true]
  have hj : (j 1).val < 4096 := (j 1).isLt
  obtain ⟨p, hp⟩ := exists_numOf (w := (j 1).val / 128) (by omega)
  exact ⟨p, mem_colSet.2 hp.symm⟩

theorem blks_cover :
    ((Finset.univ : Finset (Fin 2 × Fin 16)) ×ˢ Finset.range 130).biUnion (fun q => blkSet (numOf q.1) q.2) = Finset.univ := by
  ext j
  simp only [Finset.mem_biUnion, Finset.mem_univ, iff_true]
  have h0 : (j 0).val < 26 := (j 0).isLt
  have h1 : (j 1).val < 1000 := (j 1).isLt
  have h2 : (j 2).val < 4096 := (j 2).isLt
  obtain ⟨p, hp⟩ := exists_numOf (w := (j 2).val / 128) (by omega)
  refine ⟨(p, (j 0).val * 5 + (j 1).val / 200), Finset.mem_product.2 ⟨Finset.mem_univ _, Finset.mem_range.2 (by dsimp only; omega)⟩, mem_blkSet.2 ⟨?_, ?_, hp.symm⟩⟩
  · dsimp only; omega
  · dsimp only; omega

/-- What a task takes and gives back: its columns of the indices, and its blocks of the output. -/
def piece (d : Dev nD) (idx : S26x4096.Idx → BitVec 32) (f : S26x1000x4096.Idx → F .f32) (c s : Nat) : sProp 𝕄 :=
  iprop((iLoc d ↦[colSet (2 * s + c)]{fullShare} idx)
    ∗ bigSep (Finset.range 130) fun st => oLoc d ↦[blkSet (2 * s + c) st]{fullShare} f)

instance piece_storable (d : Dev nD) (idx : S26x4096.Idx → BitVec 32) (f : S26x1000x4096.Idx → F .f32) (c s : Nat) :
    BI.Storable (upEmb : UEmb _ 𝕄) (piece d idx f c s) := by unfold piece; infer_instance

theorem pieces_eq (d : Dev nD) (idx : S26x4096.Idx → BitVec 32) (f : S26x1000x4096.Idx → F .f32) :
    (bigSep (Finset.univ : Finset (Fin 2)) fun c => bigSep (Finset.univ : Finset (Fin 16)) fun s => piece d idx f c.val s.val)
      = (iprop((iLoc d ↦{fullShare} idx) ∗ (oLoc d ↦{fullShare} f)) : sProp 𝕄) := by
  have hi : (bigSep (Finset.univ : Finset (Fin 2 × Fin 16)) fun p => (iLoc d ↦[colSet (numOf p)]{fullShare} idx : sProp 𝕄)) = (iLoc d ↦{fullShare} idx) := by
    rw [← pointsTo_biUnion Finset.univ (ℓ := iLoc d) (fun p => colSet (numOf p))
      (fun p _ p' _ h => colSet_disjoint fun e => h (numOf_injective e)), cols_cover]
  have ho : (bigSep (Finset.univ : Finset (Fin 2 × Fin 16)) fun p => bigSep (Finset.range 130) fun st =>
      (oLoc d ↦[blkSet (numOf p) st]{fullShare} f : sProp 𝕄)) = (oLoc d ↦{fullShare} f) := by
    rw [← SparseCore.bigSep_product (Finset.univ : Finset (Fin 2 × Fin 16)) (Finset.range 130)
        (fun q => (oLoc d ↦[blkSet (numOf q.1) q.2]{fullShare} f : sProp 𝕄)),
      ← pointsTo_biUnion _ (ℓ := oLoc d) (fun q : (Fin 2 × Fin 16) × Nat => blkSet (numOf q.1) q.2)
        (fun q _ q' _ h => blkSet_disjoint fun e => h (Prod.ext (numOf_injective (Prod.mk.inj e).1) (Prod.mk.inj e).2)), blks_cover]
  rw [← hi, ← ho, ← bigSep_sep']
  refine (SparseCore.bigSep_product Finset.univ Finset.univ (fun p : Fin 2 × Fin 16 => (piece d idx f p.1.val p.2.val : sProp 𝕄))).symm.trans ?_
  rw [Finset.univ_product_univ]
  rfl

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v2

variable [FloatOps F]

/-- The indices as the call sees them. -/
def idxT (d : Dev nD) : S26x4096.Idx → BitVec 32 := transpose S26x4096 [1, 0] (m (aLoc d)) transposes_S4096x26_S26x4096_1_0

/-- The call's payloads: each task its piece, the output at its launch contents on the way in and one-hot on the way
    back. -/
def P : (K (F := F)).Pay (nD := nD) (Val := Elt F) (Name := ℕ) (U := UU) where
  st := fun q d c => bigSep (Finset.univ : Finset (Fin ((K (F := F)).nSub q))) fun s => piece d (idxT m d) (m (oLoc d)) c.val s.val
  dn := fun q d c => bigSep (Finset.univ : Finset (Fin ((K (F := F)).nSub q))) fun s => piece d (idxT m d) (oneHot (F := F) (idxT m d)) c.val s.val
  go := fun _ d c s => piece d (idxT m d) (m (oLoc d)) c.val s.val
  td := fun _ d c s => piece d (idxT m d) (oneHot (F := F) (idxT m d)) c.val s.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## A task's own memory -/

section Own
variable (d : Dev nD) (L : grid0.Coords)

abbrev cellA : GSem nD τ sig := (thrOf L d, .dma cc0_scratch3.sem)
abbrev cellB : GSem nD τ sig := (thrOf L d, .dma cc0_scratch4.sem)
abbrev cellF : GSem nD τ sig := (thrOf L d, .dma cc0_scoped0.sem)

omit [FloatOps F] in
theorem ownSems_split :
    (ownSems0 (thrOf L d) : sProp 𝕄)
      = iprop(semVal (cellA d L) 0 ∗ semVal (cellB d L) 0 ∗ semVal (cellF d L) 0
          ∗ bigSep ((((ownCells (thrOf L d)).erase (cellA d L)).erase (cellB d L)).erase (cellF d L)) fun g => semVal g 0) := by
  have hA : cellA d L ∈ ownCells (thrOf L d) :=
    mem_ownCells.mpr ⟨rfl, by show (SemLoc.dma cc0_scratch3.sem : SemLoc sig).isScoped .scVector = true; decide⟩
  have hB : cellB d L ∈ ownCells (thrOf L d) :=
    mem_ownCells.mpr ⟨rfl, by show (SemLoc.dma cc0_scratch4.sem : SemLoc sig).isScoped .scVector = true; decide⟩
  have hF : cellF d L ∈ ownCells (thrOf L d) :=
    mem_ownCells.mpr ⟨rfl, by show (SemLoc.dma cc0_scoped0.sem : SemLoc sig).isScoped .scVector = true; decide⟩
  have nBA : cellB d L ≠ cellA d L := fun e => absurd (Prod.mk.inj e).2 (by decide)
  have nFA : cellF d L ≠ cellA d L := fun e => absurd (Prod.mk.inj e).2 (by decide)
  have nFB : cellF d L ≠ cellB d L := fun e => absurd (Prod.mk.inj e).2 (by decide)
  unfold SparseCore.Cfg.ownSems0
  rw [SparseCore.bigSep_erase' hA, SparseCore.bigSep_erase' (Finset.mem_erase.mpr ⟨nBA, hB⟩),
    SparseCore.bigSep_erase' (Finset.mem_erase.mpr ⟨nFB, Finset.mem_erase.mpr ⟨nFA, hF⟩⟩)]

/-- A buffer of the task's, as the device names it. -/
abbrev refOf (b : Ref sig .scVector) : DevRef τ sig := (Proc.scVector (coreOf L) (subOf L)).devRef b

omit [FloatOps F] in
theorem ownBufs_split :
    (ownBufs (thrOf L d) : sProp 𝕄)
      = iprop((∃ f, (thrOf L d).loc cc0_scratch0 ↦{fullShare} f) ∗ (∃ f, (thrOf L d).loc cc0_scratch1 ↦{fullShare} f)
          ∗ (∃ f, (thrOf L d).loc cc0_scratch2 ↦{fullShare} f)
          ∗ bigSep ((((ownRefs (τ := τ) (.scVector (coreOf L) (subOf L))).erase (refOf L cc0_scratch0)).erase (refOf L cc0_scratch1)).erase (refOf L cc0_scratch2))
              fun b => iprop(∃ f, ((d, b) : Loc nD τ sig) ↦{fullShare} f)) := by
  have h0 : refOf L cc0_scratch0 ∈ ownRefs (τ := τ) (.scVector (coreOf L) (subOf L)) := SparseCore.Cfg.mem_ownRefs_of_owner rfl
  have h1 : refOf L cc0_scratch1 ∈ ownRefs (τ := τ) (.scVector (coreOf L) (subOf L)) := SparseCore.Cfg.mem_ownRefs_of_owner rfl
  have h2 : refOf L cc0_scratch2 ∈ ownRefs (τ := τ) (.scVector (coreOf L) (subOf L)) := SparseCore.Cfg.mem_ownRefs_of_owner rfl
  have n10 : refOf L cc0_scratch1 ≠ refOf L cc0_scratch0 := fun e =>
    absurd (Proc.devRef_injective _ e) (show (cc0_scratch1 : Ref sig .scVector) ≠ cc0_scratch0 by decide)
  have n20 : refOf L cc0_scratch2 ≠ refOf L cc0_scratch0 := fun e =>
    absurd (Proc.devRef_injective _ e) (show (cc0_scratch2 : Ref sig .scVector) ≠ cc0_scratch0 by decide)
  have n21 : refOf L cc0_scratch2 ≠ refOf L cc0_scratch1 := fun e =>
    absurd (Proc.devRef_injective _ e) (show (cc0_scratch2 : Ref sig .scVector) ≠ cc0_scratch1 by decide)
  unfold SparseCore.Cfg.ownBufs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩)]

omit [FloatOps F] in
/-- A whole buffer at some contents is a memref's elements, free to use. -/
theorem free_intro (thr : Thread nD τ) (b : Ref sig thr.2.kind) :
    (iprop(∃ f, thr.loc b ↦{fullShare} f) : sProp 𝕄) ⊢ Free thr (Memref.whole b) := by
  unfold Free Holds
  rw [Memref.view_whole, View.set_whole]
  iintro ⟨%f, H⟩
  iexists ((View.whole b).read (Elt F) f)
  iexists f
  isplitr
  · ipureintro; rfl
  iexact H

omit [FloatOps F] in
theorem free_elim (thr : Thread nD τ) (b : Ref sig thr.2.kind) :
    (Free thr (Memref.whole b) : sProp 𝕄) ⊢ iprop(∃ f, thr.loc b ↦{fullShare} f) := by
  unfold Free Holds
  rw [Memref.view_whole, View.set_whole]
  iintro ⟨%h, %g, -, H⟩
  iexists g
  iexact H

/-- The task on its own thread, between what it is handed and what it hands back. -/
theorem wp_body (hF : (K (F := F)).Facts) (O : CellTallies nD τ sig (HIx 1)) (W : Waits sig (HIx 1)) (hO : ∀ g, O g none = 0)
    (idx : S26x4096.Idx → BitVec 32) (f0 : S26x1000x4096.Idx → F .f32) :
    (iprop(levAts (K (F := F)).L (K (F := F)).lev ∗ emp ∗ piece d idx f0 (L 0).val (L 1).val
        ∗ scopedBufs (thrOf L d) ∗ scopedSems0 (thrOf L d) ∗ owes (thrOf L d) O W) : sProp 𝕄)
      ⊢ wp frame (wpE (defs₀ (F := F)) 𝒱₀ (thrOf L d) none) Set.univ
          (cc0__body L iW (Memref.isWhole_whole _) oW (Memref.isWhole_whole _) sT (Memref.isWhole_whole _) sA (Memref.isWhole_whole _)
            sB (Memref.isWhole_whole _) cc0_scratch3 cc0_scratch4 cc0_scoped0)
          fun _ => iprop(piece d idx (oneHot (F := F) idx) (L 0).val (L 1).val
            ∗ scopedBufs (thrOf L d) ∗ scopedSems0 (thrOf L d) ∗ ∃ W', ⌜∀ p ∈ W', p ∈ W ∨ p.2 = none⌝ ∗ owes (thrOf L d) O W') := by
  rw [cc0__body_eq, (K (F := F)).scopedBufs_V hF d (coreOf L) (subOf L), SparseCore.Cfg.scopedSems0_V (Val := Elt F) d (coreOf L) (subOf L),
    ownSems_split, ownBufs_split]
  unfold piece
  iintro ⟨#Hlv, -, ⟨Hi, Ho⟩, ⟨Ht, HA, HB, Hbufs⟩, ⟨Hv7, Hv8, Hv, Hsems⟩, HO⟩
  ihave Hm := ((K (F := F)).mayWaits_none (thr := thrOf L d) hO) $$ Hlv
  ihave Ht := (free_intro (thrOf L d) cc0_scratch0) $$ Ht
  ihave HA := (free_intro (thrOf L d) cc0_scratch1) $$ HA
  ihave HB := (free_intro (thrOf L d) cc0_scratch2) $$ HB
  iapply (wp_wand frame _ _) $$ [Hm HO Hi Ho Ht HA HB Hv7 Hv8 Hv]
  · iapply (wp_task idx f0 L d cc0_scratch3 cc0_scratch4 cc0_scoped0 O W (Memref.isWhole_whole _) (Memref.isWhole_whole _) (Memref.isWhole_whole _))
    isplitl [Hm]; · iexact Hm
    isplitl [HO]; · iexact HO
    isplitl [Hi]; · iexact Hi
    isplitl [Ho]; · iexact Ho
    isplitl [Ht]; · iexact Ht
    isplitl [HA]; · iexact HA
    isplitl [HB]; · iexact HB
    isplitl [Hv7]; · iexact Hv7
    isplitl [Hv8]; · iexact Hv8
    iexact Hv
  iintro %_ ⟨Hi, Ho, Ht, HA, HB, Hv7, Hv8, Hv, HO⟩
  ihave Ht := (free_elim (thrOf L d) cc0_scratch0) $$ Ht
  ihave HA := (free_elim (thrOf L d) cc0_scratch1) $$ HA
  ihave HB := (free_elim (thrOf L d) cc0_scratch2) $$ HB
  isplitl [Hi Ho]
  · isplitl [Hi]; · iexact Hi
    iexact Ho
  isplitl [Ht HA HB Hbufs]
  · isplitl [Ht]; · iexact Ht
    isplitl [HA]; · iexact HA
    isplitl [HB]; · iexact HB
    iexact Hbufs
  isplitl [Hv7 Hv8 Hv Hsems]
  · isplitl [Hv7]; · iexact Hv7
    isplitl [Hv8]; · iexact Hv8
    isplitl [Hv]; · iexact Hv
    iexact Hsems
  unfold Owed
  iexact HO

end Own

/-! ## The launch theorem's obligations -/

/-- The coordinates of a SparseCore's subcore. -/
def coordsOf (c : Fin (grid0.bound 0)) (s : Fin (grid0.bound 1)) : grid0.Coords :=
  fun | 0 => c | 1 => s | ⟨_ + 2, h⟩ => absurd h (Nat.not_lt.2 (Nat.le_add_left _ _))

theorem defs₀_task (c : Fin τ.nSC) (s : Fin τ.nSub) :
    defs₀ (F := F) (.scVector c s) 0 ()
      = SparseCore.onTile hcore0 hsub0 (fun c s => cc0__body (coordsOf c s)
          iW (Memref.isWhole_whole _) oW (Memref.isWhole_whole _) sT (Memref.isWhole_whole _) sA (Memref.isWhole_whole _)
          sB (Memref.isWhole_whole _) cc0_scratch3 cc0_scratch4 cc0_scoped0) ⟨⟩ c s := rfl

omit [FloatOps F] in
/-- The recorded waits, as the launch theorem words them. -/
theorem waits_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_task]; simp only [SparseCore.onTile, hc, and_self, ↓reduceDIte]
  exact (wp_body d (coordsOf ⟨_, hc.1⟩ ⟨_, hc.2⟩) hF O W hO (idxT m d) (m (oLoc d))).trans (wp_mono frame _ _ fun _ => waits_post)

theorem vecSplit : (K (F := F)).VecSplit' (P m) 0 := by
  intro d c
  show (bigSep Finset.univ fun s : Fin ((K (F := F)).nSub 0) => piece d (idxT m d) (m (oLoc d)) c.val s.val) ⊢ |={Set.univ}=> iprop(
      (bigSep Finset.univ fun s : Fin ((K (F := F)).nSub 0) => piece d (idxT m d) (m (oLoc d)) c.val s.val)
      ∗ ((bigSep Finset.univ fun s : Fin ((K (F := F)).nSub 0) => piece d (idxT m d) (oneHot (F := F) (idxT m d)) c.val s.val)
          -∗ (bigSep Finset.univ fun s : Fin ((K (F := F)).nSub 0) => piece d (idxT m d) (oneHot (F := F) (idxT m d)) c.val s.val)))
  iintro H; imodintro
  isplitl [H]; · iexact H
  iintro H
  iexact H

/-! ## The launch's ghost state: the handshakes' rounds, nothing of the kernel's own -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## The host's program -/

abbrev a' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opIn : HloOp τ sig (Elt F) :=
  StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev opOut : HloOp τ sig (Elt F) :=
  StableHlo.unary main_v1 main_v2 ((transpose S4096x26x1000 [2, 0, 1] · transposes_S26x1000x4096_S4096x26x1000_2_0_1) : (⟨S26x1000x4096, .f32⟩ : BufTy).Contents (Elt F) → (⟨S4096x26x1000, .f32⟩ : BufTy).Contents (Elt F))

/-- The host's arrays. -/
abbrev arrays : Finset (DevRef τ sig) := {a', i', o', r'}

omit [FloatOps F] in
theorem held_arrays (d : Dev nD) (W : Valuation τ sig (Elt F)) :
    (held (T d) arrays W : sProp 𝕄)
      = iprop((aLoc d ↦{fullShare} W a') ∗ (iLoc d ↦{fullShare} W i') ∗ (oLoc d ↦{fullShare} W o') ∗ rLoc d ↦{fullShare} W r') := by
  unfold held arrays
  rw [SparseCore.bigSep_insert' (by decide), SparseCore.bigSep_insert' (by decide), SparseCore.bigSep_insert' (by decide), bigSep_singleton]

omit [FloatOps F] in
theorem unscoped_arrays (d : Dev nD) (W : (b : Ref sig .tc) → Buf (Elt F) ((d.tc : Thread nD τ).loc b)) :
    (unscopedBufs d W : sProp 𝕄)
      = iprop((aLoc d ↦{fullShare} W main_arg0) ∗ (iLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays' contents at the launch, at the call, after it, and at the end. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (oneHot (F := F) (idxT m d))
def V3 (d : Dev nD) : Valuation τ sig (Elt F) := (opOut (F := F)).result (V2 m d)

/-- What the program leaves as its result. -/
def answer (d : Dev nD) : S4096x26x1000.Idx → F .f32 :=
  transpose S4096x26x1000 [2, 0, 1] (oneHot (F := F) (idxT m d)) transposes_S26x1000x4096_S4096x26x1000_2_0_1

omit [FloatOps F] in
theorem V1_a (d : Dev nD) : V1 m d a' = m (aLoc d) := StableHlo.unary_result_ne _ _ _ _ _ _ (by decide)
omit [FloatOps F] in
theorem V1_o (d : Dev nD) : V1 m d o' = m (oLoc d) := StableHlo.unary_result_ne _ _ _ _ _ _ (by decide)
theorem V1_i (d : Dev nD) : V1 m d i' = idxT m d := StableHlo.unary_result _ _ _ _ _ _
theorem V2_o (d : Dev nD) : V2 m d o' = oneHot (F := F) (idxT m d) := Function.update_self _ _ _
theorem V2_ne (d : Dev nD) {b : DevRef τ sig} (h : b ≠ o') : V2 m d b = V1 m d b := Function.update_of_ne h _ _
theorem V3_a (d : Dev nD) : V3 m d a' = m (aLoc d) :=
  (StableHlo.unary_result_ne _ _ _ _ _ _ (by decide)).trans ((V2_ne m d (by decide)).trans (V1_a m d))
theorem V3_r (d : Dev nD) : V3 m d r' = answer m d :=
  (StableHlo.unary_result _ _ _ _ _ _).trans (by rw [V2_o]; rfl)

omit [FloatOps F] in
/-- The call's shares, over the SparseCores and their subcores, are the two arrays whole. -/
theorem shares_eq (d : Dev nD) (idx : S26x4096.Idx → BitVec 32) (f : S26x1000x4096.Idx → F .f32) :
    (bigSep Finset.univ fun c : Fin ((K (F := F)).nCore 0) => bigSep Finset.univ fun s : Fin ((K (F := F)).nSub 0) => piece d idx f c.val s.val)
      = (iprop((iLoc d ↦{fullShare} idx) ∗ (oLoc d ↦{fullShare} f)) : sProp 𝕄) := by
  exact pieces_eq d idx f

/-- What the program leaves the claim. -/
abbrev FIN (d : Dev nD) : sProp 𝕄 := iprop((aLoc d ↦{fullShare} m (aLoc d)) ∗ (rLoc d ↦{fullShare} answer m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) arrays (V0 m d) from by
    rw [unscoped_arrays, held_arrays]; rfl]
  simp only [main, wp_bind, wp_pure]
  iintro ⟨#Hctx, Hst, ⟨Hb, Hheld, Hts, -⟩, -⟩
  iapply (wp_hlo_within 𝒱 (SparseCore.T d) none Set.univ (op := opIn) (S := arrays)
    (show ({a', i'} : Finset (DevRef τ sig)) ⊆ arrays by decide) (V := V0 m d)) $$ [Hb Hheld]
  · isplitl [Hb]; · iexact Hb
    iexact Hheld
  iintro ⟨Hb, Hheld⟩
  ihave Hh := (Entails.of_eq (show held (T d) arrays ((opIn (F := F)).result (V0 m d)) = _ from held_arrays (F := F) d (V1 m d))) $$ Hheld
  rw [V1_i, V1_o]
  icases Hh with ⟨Ha, Hi, Ho, Hr⟩
  rw [wp_ret]; imodintro
  iapply ((K (F := F)).wp_run (D (F := F)) 𝒱 (EH := EH) (P := P m) κ d 0) $$ [Hst Ha Hi Ho Hr Hb Hts]
  isplitr; · iexact Hctx
  isplitl [Hst]; · iexact Hst
  isplitl [Hi Ho]
  · iapply (Entails.of_eq (shares_eq (F := F) d (idxT m d) (m (oLoc d))).symm)
    isplitl [Hi]; · iexact Hi
    iexact Ho
  iintro ⟨Hst, Hdn⟩
  ihave Hdn' := (Entails.of_eq (show (bigSep Finset.univ fun c => (P (F := F) m).dn 0 d c) = _ from
    shares_eq (F := F) d (idxT m d) (oneHot (F := F) (idxT m d)))) $$ Hdn
  icases Hdn' with ⟨Hi, Ho⟩
  iapply (wp_hlo_within 𝒱 (SparseCore.T d) none Set.univ (op := opOut) (S := arrays)
    (show ({o', r'} : Finset (DevRef τ sig)) ⊆ arrays by decide) (V := V2 m d)) $$ [Hb Ha Hi Ho Hr]
  · isplitl [Hb]; · iexact Hb
    rw [held_arrays, V2_o, V2_ne m d (show a' ≠ o' by decide), V2_ne m d (show i' ≠ o' by decide), V2_ne m d (show r' ≠ o' by decide), V1_i]
    isplitl [Ha]; · iexact Ha
    isplitl [Hi]; · iexact Hi
    isplitl [Ho]; · iexact Ho
    iexact Hr
  iintro ⟨Hb, Hheld⟩
  ihave Hh := (Entails.of_eq (show held (T d) arrays ((opOut (F := F)).result (V2 m d)) = _ from held_arrays (F := F) d (V3 m d))) $$ Hheld
  rw [V3_a, V3_r]
  icases Hh with ⟨Ha, -, -, Hr⟩
  rw [wp_ret]; imodintro; imodintro
  isplitl [Hst]; · iexact Hst
  isplitr [Hb Hts]
  · isplitl [Ha]; · iexact Ha
    iexact Hr
  isplitl [Hb] <;> iassumption

def fq (d : Dev nD) (s' : Phys nD τ sig (Elt F)) : Prop := s'.mem.mem (aLoc d) = m (aLoc d) ∧ s'.mem.mem (rLoc d) = answer m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := answer m d)) $$ [HSI Hr]
  · isplitl [HSI] <;> iassumption
  icases H with %h2
  ipureintro; exact ⟨funext fun i => h1 i (Finset.mem_univ i), funext fun i => h2 i (Finset.mem_univ i)⟩

/-! ## The program's run -/

def Ends : PUnit × MemSt nD τ sig (Elt F) → Prop :=
  fun r => (∀ c : Dev nD, r.2.mem (aLoc c) = m (aLoc c) ∧ r.2.mem (rLoc c) = answer m c) ∧ r.2.sem = fun _ => 0

/-- From any memory with zero counters the program ends with its argument unchanged, its result the one-hot array, and
    every counter at zero. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

/-- The one-hot array of an argument, element by element. -/
def oneHotOf (x : S4096x26.Idx → BitVec 32) : S4096x26x1000.Idx → F .f32 :=
  fun j => if x (Shape.pair (d := ![4096, 26]) (j 0) (j 1)) = BitVec.ofNat 32 (j 2).val then oneF else zeroF

theorem answer_eq (d : Dev nD) : answer m d = oneHotOf (F := F) (m (aLoc d)) := by
  funext j
  let k : S26x1000x4096.Idx := fun | 0 => j 1 | 1 => j 2 | 2 => j 0
  have hk : answer m d j = oneHot (F := F) (idxT m d) k :=
    transpose_apply _ _ _ _ k fun b => by
      match b with
      | 0 => rfl
      | 1 => rfl
      | 2 => rfl
  have hi : idxT m d (Shape.pair (d := ![26, 4096]) (j 1) (j 0)) = (m (aLoc d) : S4096x26.Idx → BitVec 32) (Shape.pair (d := ![4096, 26]) (j 0) (j 1)) :=
    transpose_apply _ _ _ _ _ fun b => by
      match b with
      | 0 => rfl
      | 1 => rfl
  rw [hk]
  exact if_congr (by rw [← hi]) rfl rfl

end Cert.Proof.OneHot

end
-- ==== Proof.Reference.lean ====
/-
  The reference's value: comparing each argument word with the class number and converting the answer's bit to a float
  gives the one-hot array of the argument.
-/
module

public import proofs.«01_k».proof.Proof.Launch
public import proofs.«01_k».proof.Proof.Gen.ReferenceIdeal
public import Idealize.ShloMosaic.Lib.IdealHost
public import Idealize.ShloMosaic.Lib.Pipeline.Value

@[expose] public section

noncomputable section

namespace Cert.Proof.OneHot

open Cert.ReferenceIdeal Cert.ReferenceIdeal.Gen Idealize.ShloMosaic

/-- The bit of an equality test, as an exact number: one where the words agree and zero elsewhere. -/
theorem uitofp_eq (x y : BitVec 32) :
    (FloatOps.uitofp (F := Ideal) .f32 (IntOp.cmpi .eq x y) : Ideal .f32) = if x = y then oneF else zeroF := by
  have h1 : (oneF : Ideal .f32) = (1 : EReal) := Ideal.ofBits_one_f32
  have h0 : (zeroF : Ideal .f32) = (0 : EReal) := Ideal.ofBits_zero_f32
  rw [h1, h0]
  show (((IntOp.cmpi .eq x y).toNat : ℝ) : EReal) = _
  by_cases h : x = y
  · subst h
    rw [if_pos rfl, IntOp.cmpi_eq_self]; simp
  · rw [if_neg h]
    have hb : IntOp.cmpi .eq x y = 0#1 := congrArg BitVec.ofBool (beq_false_of_ne h)
    rw [hb]; simp

/-- What the reference computes is the one-hot array of its argument. -/
theorem reference_eq (x : S4096x26.Idx → BitVec 32) :
    (uitofp .f32 (cmpi .eq (broadcastInDim S4096x26x1000 ![0, 1, 2] bcast_S4096x26x1_S4096x26x1000_0_1_2
        (broadcastInDim S4096x26x1 ![0, 1] bcast_S4096x26_S4096x26x1_0_1 x))
      (broadcastInDim S4096x26x1000 ![0, 1, 2] bcast_S1x1x1000_S4096x26x1000_0_1_2 (iotaInDim S1x1x1000 32 2))) : FVec Ideal S4096x26x1000 .f32)
      = oneHotOf (F := Ideal) x := by
  funext j
  let k1 : S4096x26x1.Idx := fun | 0 => j 0 | 1 => j 1 | 2 => (0 : Fin 1)
  let k2 : S1x1x1000.Idx := fun | 0 => (0 : Fin 1) | 1 => (0 : Fin 1) | 2 => j 2
  have hx : broadcastInDim S4096x26x1000 ![0, 1, 2] bcast_S4096x26x1_S4096x26x1000_0_1_2
      (broadcastInDim S4096x26x1 ![0, 1] bcast_S4096x26_S4096x26x1_0_1 x) j = x (Shape.pair (d := ![4096, 26]) (j 0) (j 1)) :=
    (broadcastInDim_apply _ _ _ j k1 fun a => by match a with | 0 => rfl | 1 => rfl | 2 => rfl).trans
      (broadcastInDim_apply _ _ _ k1 _ fun a => by match a with | 0 => rfl | 1 => rfl)
  have hy : broadcastInDim S4096x26x1000 ![0, 1, 2] bcast_S1x1x1000_S4096x26x1000_0_1_2 (iotaInDim S1x1x1000 32 2) j = BitVec.ofNat 32 (j 2).val :=
    broadcastInDim_apply _ _ _ j k2 fun a => by match a with | 0 => rfl | 1 => rfl | 2 => rfl
  show FloatOps.uitofp (F := Ideal) .f32 (IntOp.cmpi .eq (broadcastInDim S4096x26x1000 ![0, 1, 2] bcast_S4096x26x1_S4096x26x1000_0_1_2
      (broadcastInDim S4096x26x1 ![0, 1] bcast_S4096x26_S4096x26x1_0_1 x) j)
    (broadcastInDim S4096x26x1000 ![0, 1, 2] bcast_S1x1x1000_S4096x26x1000_0_1_2 (iotaInDim S1x1x1000 32 2) j)) = _
  rw [hx, hy]
  exact uitofp_eq _ _

end Cert.Proof.OneHot

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The printed program's run: the same text as its idealization's, read at the machine's floats. -/
theorem frame_kernel : Cert.quiescent_Kernel := fun m ρ _ =>
  (θ_run Cert.KernelIdeal.defs _ _).mono (fun _ h => ⟨fun c => (h.1 c).1, h.2⟩) (OneHot.run_main (F := Bits) m ρ)

theorem frame_ideal : Cert.quiescent_KernelIdeal := fun m ρ _ =>
  (θ_run Cert.KernelIdeal.defs _ _).mono (fun _ h => ⟨fun c => (h.1 c).1, h.2⟩) (OneHot.run_main (F := Ideal) m ρ)

/-- The reference leaves its argument alone, and it has no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Both programs end with the one-hot array of the argument. -/
theorem algebraic : Cert.algebraic_KernelIdeal_ReferenceIdeal := by
  intro m ρ m' ρ' _ hargs
  refine ⟨fun c => OneHot.answer m c,
    (θ_run Cert.KernelIdeal.defs _ _).mono (fun _ h c => ⟨(h.1 c).2, (h.1 c).1⟩) (OneHot.run_main (F := Ideal) m ρ), ?_⟩
  refine (θ_run Cert.ReferenceIdeal.defs _ _).mono (fun _ h c => ⟨(h c).1.trans ?_, (h c).2⟩)
    (Cert.ReferenceIdeal.Value.run (F := Ideal) m' ρ')
  exact (OneHot.reference_eq _).trans
    ((congrArg (OneHot.oneHotOf (F := Ideal)) (hargs c)).trans (OneHot.answer_eq m c).symm)

theorem claim : Cert.Claim :=
  ⟨Cert.Kernel.Gen.facts, Cert.KernelIdeal.Gen.facts, Cert.ReferenceIdeal.Gen.facts,
    frame_kernel, frame_ideal, frame_reference, trivial, algebraic⟩

end Cert.Proof

end
